-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_infinity_five_apart_small_counts [hPre_logits_below_infinity_five_apart_small_counts : Cert.Pre_logits_below_infinity_five_apart_small_counts.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity_five_apart_small_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity_five_apart_small_counts [hPre_logits_below_infinity_five_apart_small_counts : Cert.Pre_logits_below_infinity_five_apart_small_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity_five_apart_small_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_below_infinity_five_apart_small_counts [hKernelIdeal : Cert.KernelIdeal.Facts] [hPre_logits_below_infinity_five_apart_small_counts : Cert.Pre_logits_below_infinity_five_apart_small_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity_five_apart_small_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_below_infinity_five_apart_small_counts [hReferenceIdeal : Cert.ReferenceIdeal.Facts] [hPre_logits_below_infinity_five_apart_small_counts : Cert.Pre_logits_below_infinity_five_apart_small_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity_five_apart_small_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_logits_below_infinity_five_apart_small_counts [hKernelIdeal : Cert.KernelIdeal.Facts] [hReferenceIdeal : Cert.ReferenceIdeal.Facts] [hPre_logits_below_infinity_five_apart_small_counts : Cert.Pre_logits_below_infinity_five_apart_small_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity_five_apart_small_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_logits_below_infinity_five_apart_small_counts : Cert.Pre_logits_below_infinity_five_apart_small_counts.Facts),
    quiescent_Kernel (hKernel := hKernel)
    ∧ quiescent_KernelIdeal (hKernelIdeal := hKernelIdeal)
    ∧ quiescent_KernelIdeal_pre_logits_below_infinity_five_apart_small_counts (hKernelIdeal := hKernelIdeal) (hPre_logits_below_infinity_five_apart_small_counts := hPre_logits_below_infinity_five_apart_small_counts)
    ∧ quiescent_ReferenceIdeal (hReferenceIdeal := hReferenceIdeal)
    ∧ quiescent_ReferenceIdeal_pre_logits_below_infinity_five_apart_small_counts (hReferenceIdeal := hReferenceIdeal) (hPre_logits_below_infinity_five_apart_small_counts := hPre_logits_below_infinity_five_apart_small_counts)
    ∧ preserves_Kernel_KernelIdeal
    ∧ algebraic_KernelIdeal_ReferenceIdeal_pre_logits_below_infinity_five_apart_small_counts (hKernelIdeal := hKernelIdeal) (hReferenceIdeal := hReferenceIdeal) (hPre_logits_below_infinity_five_apart_small_counts := hPre_logits_below_infinity_five_apart_small_counts)
-- ==== Pre_logits_below_infinity_five_apart_small_counts.lean ====
abbrev S128x100000 : Shape := ⟨2, ![128, 100000]⟩
abbrev S128 : Shape := ⟨1, ![128]⟩
abbrev S128x6 : Shape := ⟨2, ![128, 6]⟩
abbrev S_ : Shape := ⟨0, ![]⟩
abbrev S128x1 : Shape := ⟨2, ![128, 1]⟩

class Facts : Prop where
  sliceFits_S128x100000_S128x6 : S128x100000.Slices (fun _ => 0) S128x6
  bcast_S_S128x100000 : S_.BroadcastsInDim S128x100000 (![] : Fin 0 → Fin S128x100000.rank)
  slices_S128x6_S128x1_0_4 : S128x6.Slices ![0, 4] S128x1
  slices_S128x6_S128x1_0_5 : S128x6.Slices ![0, 5] S128x1
  bcast_S128x1_S128x100000_0_1 : S128x1.BroadcastsInDim S128x100000 (![0, 1] : Fin 2 → Fin S128x100000.rank)

variable [Facts]

def fn {F : FTy → Type} [FloatOps F] (main_arg0 : FVec F S128x100000 .f32) (main_arg1 : IVec S128x100000 32) (main_arg2 : FVec F S128 .f32) (main_arg3 : FVec F S128 .f32) : IVec S128x100000 1 :=
  let main_values : FVec F S128x6 .f32 := (fun x => (Host.topK S128x6 1 (FloatOps.cmpfTotal .gt) x sliceFits_S128x100000_S128x6).1) main_arg0
  let main_indices : IVec S128x6 32 := (fun x => (Host.topK S128x6 1 (FloatOps.cmpfTotal .gt) x sliceFits_S128x100000_S128x6).2) main_arg0
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  let main_v2 : FVec F S128x1 .f32 := (extractStridedSlice S128x1 ![0, 4] · slices_S128x6_S128x1_0_4) main_values
  let main_v3 : FVec F S128x1 .f32 := (extractStridedSlice S128x1 ![0, 5] · slices_S128x6_S128x1_0_5) main_values
  let main_v4 : IVec S128x1 1 := cmpf .ogt main_v2 main_v3
  let main_v5 : IVec S128x100000 1 := broadcastInDim S128x100000 ![0, 1] bcast_S128x1_S128x100000_0_1 main_v4
  let main_v6 : IVec S128x100000 1 := andi main_v1 main_v5
  let main_c : IVec S_ 32 := constantI S_ 32 0#32
  let main_v7 : IVec S128x100000 32 := broadcastInDim S128x100000 ![] bcast_S_S128x100000 main_c
  let main_v8 : IVec S128x100000 1 := cmpi .sge main_arg1 main_v7
  let main_v9 : IVec S128x100000 1 := andi main_v6 main_v8
  let main_c_0 : IVec S_ 32 := constantI S_ 32 4#32
  let main_v10 : IVec S128x100000 32 := broadcastInDim S128x100000 ![] bcast_S_S128x100000 main_c_0
  let main_v11 : IVec S128x100000 1 := cmpi .slt main_arg1 main_v10
  let main_v12 : IVec S128x100000 1 := andi main_v9 main_v11
  main_v12
-- ==== Kernel.lean ====
abbrev S128x100000 : Shape := ⟨2, ![128, 100000]⟩
abbrev S128 : Shape := ⟨1, ![128]⟩
abbrev S128x1 : Shape := ⟨2, ![128, 1]⟩
abbrev S8x100000 : Shape := ⟨2, ![8, 100000]⟩
abbrev S8x1 : Shape := ⟨2, ![8, 1]⟩
abbrev S8x128 : Shape := ⟨2, ![8, 128]⟩
abbrev S8x2560 : Shape := ⟨2, ![8, 2560]⟩
abbrev S8 : Shape := ⟨1, ![8]⟩

abbrev nBuf : Space → Nat
  | .hbm => 11
  | .vmem => 14
  | .smem => 0
  | _ => 0

abbrev bufTy : (tb : Table) → Fin (tcTables nBuf tb) → BufTy
  | .hbm, ⟨0, _⟩ => ⟨S128x100000, .f32⟩
  | .hbm, ⟨1, _⟩ => ⟨S128x100000, .i32⟩
  | .hbm, ⟨2, _⟩ => ⟨S128, .f32⟩
  | .hbm, ⟨3, _⟩ => ⟨S128, .f32⟩
  | .hbm, ⟨4, _⟩ => ⟨S128x1, .f32⟩
  | .hbm, ⟨5, _⟩ => ⟨S128x1, .f32⟩
  | .hbm, ⟨6, _⟩ => ⟨S128x1, .i32⟩
  | .hbm, ⟨7, _⟩ => ⟨S128x1, .f32⟩
  | .hbm, ⟨8, _⟩ => ⟨S128x100000, .i32⟩
  | .hbm, ⟨9, _⟩ => ⟨S128, .i32⟩
  | .hbm, ⟨10, _⟩ => ⟨S128, .f32⟩
  | .local _ .vmem, ⟨0, _⟩ => ⟨S8x100000, .f32⟩
  | .local _ .vmem, ⟨1, _⟩ => ⟨S8x100000, .f32⟩
  | .local _ .vmem, ⟨2, _⟩ => ⟨S8x100000, .i32⟩
  | .local _ .vmem, ⟨3, _⟩ => ⟨S8x100000, .i32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S8x1, .i32⟩
  | .local _ .vmem, ⟨9, _⟩ => ⟨S8x1, .i32⟩
  | .local _ .vmem, ⟨10, _⟩ => ⟨S8x1, .f32⟩
  | .local _ .vmem, ⟨11, _⟩ => ⟨S8x1, .f32⟩
  | .local _ .vmem, ⟨12, _⟩ => ⟨S8x100000, .i32⟩
  | .local _ .vmem, ⟨13, _⟩ => ⟨S8x100000, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2_0 : Ref sig .tc := ⟨.hbm, 6, rfl⟩
abbrev main_call0_v2_1 : Ref sig .tc := ⟨.hbm, 7, rfl⟩
abbrev main_v0_2 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c12_i32 : BitVec 32 := 12#32
  let v47 : BitVec 32 := Scalar.addi c0_i32 c12_i32
  let c1_i32 : BitVec 32 := 1#32
  ⟨c0_i32, v47, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8192_i32 : BitVec 32 := 8192#32
  let v712 : BitVec 32 := Scalar.muli arg8 c8192_i32
  v712
def k0_off1 (k0_t1 : Fin k0_t1_loop.trips) (c0_i32_158 : BitVec 32) : Fin 2 → Nat :=
  let c0_159 : Index := 0#32
  let c0_i32 : BitVec 32 := 0#32
  let c1_i32 : BitVec 32 := 1#32
  let arg8 : BitVec 32 := Scf.iv c0_i32 c1_i32 k0_t1
  let c8192_i32 : BitVec 32 := 8192#32
  let v712 : BitVec 32 := Scalar.muli arg8 c8192_i32
  let v713 : BitVec 32 := v712
  let v714 : BitVec 32 := Scalar.addi v713 c0_i32_158
  let v715 : Index := Scalar.indexCast v714
  ![0, v715.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x100000 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S128x5 : Shape := ⟨2, ![128, 5]⟩
abbrev S128x5x1 : Shape := ⟨3, ![128, 5, 1]⟩
abbrev S1 : Shape := ⟨1, ![1]⟩
abbrev S1x1x1 : Shape := ⟨3, ![1, 1, 1]⟩
abbrev S128x1x1 : Shape := ⟨3, ![128, 1, 1]⟩
abbrev S128x2 : Shape := ⟨2, ![128, 2]⟩

abbrev nBuf : Space → Nat
  | .hbm => 145
  | .vmem => 0
  | .smem => 0
  | _ => 0

abbrev hbmTy0_0 (i : Nat) : BufTy := match i % 128 with
  | 0 => ⟨S128x100000, .f32⟩
  | 1 => ⟨S128x100000, .i32⟩
  | 2 => ⟨S128, .f32⟩
  | 3 => ⟨S128, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x100000, .f32⟩
  | 11 => ⟨S128x100000, .f32⟩
  | 12 => ⟨S128x100000, .f32⟩
  | 13 => ⟨S_, .f32⟩
  | 14 => ⟨S128, .f32⟩
  | 15 => ⟨S128x1, .f32⟩
  | 16 => ⟨S128x100000, .f32⟩
  | 17 => ⟨S128x100000, .f32⟩
  | 18 => ⟨S128x5, .f32⟩
  | 19 => ⟨S128x5, .i32⟩
  | 20 => ⟨S_, .f32⟩
  | 21 => ⟨S128, .f32⟩
  | 22 => ⟨S128, .i1⟩
  | 23 => ⟨S_, .i32⟩
  | 24 => ⟨S128x5, .i32⟩
  | 25 => ⟨S128x5, .i1⟩
  | 26 => ⟨S_, .i32⟩
  | 27 => ⟨S128x5, .i32⟩
  | 28 => ⟨S128x5, .i32⟩
  | 29 => ⟨S128x5, .i32⟩
  | 30 => ⟨S128x5x1, .i32⟩
  | 31 => ⟨S1, .i32⟩
  | 32 => ⟨S_, .i32⟩
  | 33 => ⟨S128x5x1, .i32⟩
  | 34 => ⟨S128x5x1, .i1⟩
  | 35 => ⟨S1x1x1, .i32⟩
  | 36 => ⟨S128x5x1, .i32⟩
  | 37 => ⟨S128x5x1, .i1⟩
  | 38 => ⟨S128x5x1, .i1⟩
  | 39 => ⟨S_, .i1⟩
  | 40 => ⟨S128x5, .i1⟩
  | 41 => ⟨S128x5, .i32⟩
  | 42 => ⟨S_, .i32⟩
  | 43 => ⟨S128x5, .i32⟩
  | 44 => ⟨S128x5, .i32⟩
  | 45 => ⟨S128x5, .f32⟩
  | 46 => ⟨S_, .f32⟩
  | 47 => ⟨S128x5, .f32⟩
  | 48 => ⟨S128x5, .f32⟩
  | 49 => ⟨S_, .f32⟩
  | 50 => ⟨S128x5, .f32⟩
  | 51 => ⟨S128x5, .f32⟩
  | 52 => ⟨S128x5, .f32⟩
  | 53 => ⟨S128x1, .i1⟩
  | 54 => ⟨S128x5, .i1⟩
  | 55 => ⟨S128x5, .f32⟩
  | 56 => ⟨S_, .f32⟩
  | 57 => ⟨S128, .f32⟩
  | 58 => ⟨S128x1, .f32⟩
  | 59 => ⟨S_, .f32⟩
  | 60 => ⟨S_, .f32⟩
  | 61 => ⟨S128x5, .f32⟩
  | 62 => ⟨S128x1, .f32⟩
  | 63 => ⟨S128x1, .f32⟩
  | 64 => ⟨S128x5, .f32⟩
  | 65 => ⟨S128x5, .i1⟩
  | 66 => ⟨S128x5, .i32⟩
  | 67 => ⟨S_, .i32⟩
  | 68 => ⟨S128, .i32⟩
  | 69 => ⟨S128x1, .i32⟩
  | 70 => ⟨S_, .i32⟩
  | 71 => ⟨S_, .i32⟩
  | 72 => ⟨S_, .i32⟩
  | 73 => ⟨S128x1, .i32⟩
  | 74 => ⟨S128x1, .i32⟩
  | 75 => ⟨S_, .i32⟩
  | 76 => ⟨S128x1, .i32⟩
  | 77 => ⟨S128x1, .i32⟩
  | 78 => ⟨S_, .i32⟩
  | 79 => ⟨S128x1, .i32⟩
  | 80 => ⟨S128x1, .i1⟩
  | 81 => ⟨S_, .i32⟩
  | 82 => ⟨S128x1, .i32⟩
  | 83 => ⟨S128x1, .i32⟩
  | 84 => ⟨S128x1, .i32⟩
  | 85 => ⟨S128x1x1, .i32⟩
  | 86 => ⟨S1, .i32⟩
  | 87 => ⟨S_, .i32⟩
  | 88 => ⟨S128x1x1, .i32⟩
  | 89 => ⟨S128x1x1, .i1⟩
  | 90 => ⟨S1x1x1, .i32⟩
  | 91 => ⟨S128x1x1, .i32⟩
  | 92 => ⟨S128x1x1, .i1⟩
  | 93 => ⟨S128x1x1, .i1⟩
  | 94 => ⟨S_, .i1⟩
  | 95 => ⟨S128x1, .i1⟩
  | 96 => ⟨S128x1, .i32⟩
  | 97 => ⟨S_, .i32⟩
  | 98 => ⟨S128x1, .i32⟩
  | 99 => ⟨S128x1, .i32⟩
  | 100 => ⟨S_, .i32⟩
  | 101 => ⟨S128x1, .i32⟩
  | 102 => ⟨S128x1, .i1⟩
  | 103 => ⟨S_, .i32⟩
  | 104 => ⟨S128x1, .i32⟩
  | 105 => ⟨S128x1, .i32⟩
  | 106 => ⟨S128x1, .i32⟩
  | 107 => ⟨S128x1x1, .i32⟩
  | 108 => ⟨S1, .i32⟩
  | 109 => ⟨S_, .i32⟩
  | 110 => ⟨S128x1x1, .i32⟩
  | 111 => ⟨S128x1x1, .i1⟩
  | 112 => ⟨S1x1x1, .i32⟩
  | 113 => ⟨S128x1x1, .i32⟩
  | 114 => ⟨S128x1x1, .i1⟩
  | 115 => ⟨S128x1x1, .i1⟩
  | 116 => ⟨S_, .i1⟩
  | 117 => ⟨S128x1, .i1⟩
  | 118 => ⟨S128x1, .f32⟩
  | 119 => ⟨S_, .f32⟩
  | 120 => ⟨S128x1, .f32⟩
  | 121 => ⟨S128x1, .f32⟩
  | 122 => ⟨S128, .f32⟩
  | 123 => ⟨S128, .i32⟩
  | 124 => ⟨S128, .i32⟩
  | 125 => ⟨S128, .i32⟩
  | 126 => ⟨S_, .i32⟩
  | 127 => ⟨S128, .i32⟩
  | _ => ⟨S128x100000, .f32⟩

abbrev hbmTy0_1 (i : Nat) : BufTy := match i % 128 with
  | 0 => ⟨S128, .i1⟩
  | 1 => ⟨S_, .i32⟩
  | 2 => ⟨S128, .i32⟩
  | 3 => ⟨S128, .i32⟩
  | 4 => ⟨S128, .i32⟩
  | 5 => ⟨S_, .i32⟩
  | 6 => ⟨S128, .i32⟩
  | 7 => ⟨S128, .i1⟩
  | 8 => ⟨S_, .i32⟩
  | 9 => ⟨S128, .i32⟩
  | 10 => ⟨S128, .i32⟩
  | 11 => ⟨S128, .i32⟩
  | 12 => ⟨S128x1, .i32⟩
  | 13 => ⟨S128x1, .i32⟩
  | 14 => ⟨S128x2, .i32⟩
  | 15 => ⟨S128x100000, .i32⟩
  | 16 => ⟨S128, .i32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_c_4 : Ref sig .tc := ⟨.hbm, 42, rfl⟩
abbrev main_call0_v14 : Ref sig .tc := ⟨.hbm, 43, rfl⟩
abbrev main_v13 : Ref sig .tc := ⟨.hbm, 44, rfl⟩
abbrev main_v14 : Ref sig .tc := ⟨.hbm, 45, rfl⟩
abbrev main_cst_3 : Ref sig .tc := ⟨.hbm, 46, rfl⟩
abbrev main_v15 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_call1_v0 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_v23 : Ref sig .tc := ⟨.hbm, 58, rfl⟩
abbrev main_call2_call0_cst : Ref sig .tc := ⟨.hbm, 59, rfl⟩
abbrev main_call2_call0_v0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c : Ref sig .tc := ⟨.hbm, 67, rfl⟩
abbrev main_v30 : Ref sig .tc := ⟨.hbm, 68, rfl⟩
abbrev main_v31 : Ref sig .tc := ⟨.hbm, 69, rfl⟩
abbrev main_c_6 : Ref sig .tc := ⟨.hbm, 70, rfl⟩
abbrev main_c_7 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v32 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_c_4 : Ref sig .tc := ⟨.hbm, 97, rfl⟩
abbrev main_call4_v14 : Ref sig .tc := ⟨.hbm, 98, rfl⟩
abbrev main_v33 : Ref sig .tc := ⟨.hbm, 99, rfl⟩
abbrev main_call5_c : Ref sig .tc := ⟨.hbm, 100, rfl⟩
abbrev main_call5_v0 : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_c_1 : Ref sig .tc := ⟨.hbm, 108, rfl⟩
abbrev main_call5_c_2 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_call5_c_3 : Ref sig .tc := ⟨.hbm, 116, rfl⟩
abbrev main_call5_v12 : Ref sig .tc := ⟨.hbm, 117, rfl⟩
abbrev main_call5_v13 : Ref sig .tc := ⟨.hbm, 118, rfl⟩
abbrev main_call5_cst : Ref sig .tc := ⟨.hbm, 119, rfl⟩
abbrev main_call5_v14 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_c_8 : Ref sig .tc := ⟨.hbm, 126, rfl⟩
abbrev main_v39 : Ref sig .tc := ⟨.hbm, 127, rfl⟩
abbrev main_v40 : Ref sig .tc := ⟨.hbm, 128, rfl⟩
abbrev main_c_9 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_c_10 : Ref sig .tc := ⟨.hbm, 133, rfl⟩
abbrev main_v44 : Ref sig .tc := ⟨.hbm, 134, rfl⟩
abbrev main_v45 : Ref sig .tc := ⟨.hbm, 135, rfl⟩
abbrev main_c_11 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩

abbrev nD : Nat := 1
abbrev τ : Topo := Topo.v7x

variable {F : FTy → Type} [FloatOps F]
-- ==== Proof.Vecs.lean ====
/- The vectors one block of eight rows is decoded with: the sorted lists each lane of each stream keeps, how one slice of
   128 columns is inserted into them, and what one trip of the kernel's loop does to them. -/
module

public import proofs.«01_k».proof.Proof.Gen.KernelIdeal.Loops

@[expose] public section

set_option maxRecDepth 16384

noncomputable section

namespace Cert.KernelIdeal.Vecs

open Idealize.ShloMosaic Idealize.ShloMosaic.TcCoe Idealize.ShloMosaic.Tactic
open Cert.KernelIdeal Cert.KernelIdeal.Gen

variable {F : FTy → Type} [FloatOps F]

/-- A slice's float vector: eight rows of 128 lanes. -/
abbrev FV (F : FTy → Type) := FVec F S8x128 .f32
/-- A slice's integer vector. -/
abbrev NV := IVec S8x128 32

/-- What one stream keeps in every lane: five values, greatest first, and their five packed words. -/
abbrev Lst (F : FTy → Type) :=
  FV F × FV F × FV F × FV F × FV F × NV × NV × NV × NV × NV

/-- What a list place ends with when `c` comes to the place holding `t`. -/
def hi (c t : FV F) : FV F := select (cmpf .ogt c t) c t
/-- What is handed on to the next place. -/
def lo (c t : FV F) : FV F := select (cmpf .ogt c t) t c
/-- The packed word the place ends with. -/
def qhi (c t : FV F) (q p : NV) : NV := select (cmpf .ogt c t) q p
/-- The packed word handed on. -/
def qlo (c t : FV F) (q p : NV) : NV := select (cmpf .ogt c t) p q

/-- One slice's values `c` and packed words `q` inserted into a stream's lists. -/
def ins (s : Lst F) (c : FV F) (q : NV) : Lst F :=
  let t0 := s.1
  let t1 := s.2.1
  let t2 := s.2.2.1
  let t3 := s.2.2.2.1
  let t4 := s.2.2.2.2.1
  let p0 := s.2.2.2.2.2.1
  let p1 := s.2.2.2.2.2.2.1
  let p2 := s.2.2.2.2.2.2.2.1
  let p3 := s.2.2.2.2.2.2.2.2.1
  let p4 := s.2.2.2.2.2.2.2.2.2
  let c1 := lo c t0
  let q1 := qlo c t0 q p0
  let c2 := lo c1 t1
  let q2 := qlo c1 t1 q1 p1
  let c3 := lo c2 t2
  let q3 := qlo c2 t2 q2 p2
  let c4 := lo c3 t3
  let q4 := qlo c3 t3 q3 p3
  (hi c t0, hi c1 t1, hi c2 t2, hi c3 t3, hi c4 t4,
    qhi c t0 q p0, qhi c1 t1 q1 p1, qhi c2 t2 q2 p2, qhi c3 t3 q3 p3, qhi c4 t4 q4 p4)

/-- A running sum of exponentials with one slice added. -/
def addExp (a c : FV F) : FV F :=
  addf a (exp (subf c (broadcast S8x128 (Scalar.ofBits .f32 0x41400000#32))))

/-- `n` slices inserted one after the other. -/
def insN (c : Nat → FV F) (q : Nat → NV) (s : Lst F) : Nat → Lst F
  | 0 => s
  | n + 1 => ins (insN c q s n) (c n) (q n)

/-- `n` slices added to a running sum one after the other. -/
def addN (c : Nat → FV F) (a : FV F) : Nat → FV F
  | 0 => a
  | n + 1 => addExp (addN c a n) (c n)

/-- What the loop carries: the four streams' lists and their four running sums. -/
abbrev St (F : FTy → Type) := (Lst F × Lst F × Lst F × Lst F) × FV F × FV F × FV F × FV F

/-- What the loop carries, as the program spells it. -/
abbrev Flat (F : FTy → Type) :=
  FV F × FV F × FV F × FV F × FV F × NV × NV × NV × NV × NV ×
  FV F × FV F × FV F × FV F × FV F × NV × NV × NV × NV × NV ×
  FV F × FV F × FV F × FV F × FV F × NV × NV × NV × NV × NV ×
  FV F × FV F × FV F × FV F × FV F × NV × NV × NV × NV × NV ×
  FV F × FV F × FV F × FV F

/-- The carried tuple stream by stream. -/
def toSt : Flat F → St F
  | (a0, a1, a2, a3, a4, b0, b1, b2, b3, b4, c0, c1, c2, c3, c4, d0, d1, d2, d3, d4,
     e0, e1, e2, e3, e4, f0, f1, f2, f3, f4, g0, g1, g2, g3, g4, h0, h1, h2, h3, h4, w, x, y, z) =>
    (((a0, a1, a2, a3, a4, b0, b1, b2, b3, b4), (c0, c1, c2, c3, c4, d0, d1, d2, d3, d4),
      (e0, e1, e2, e3, e4, f0, f1, f2, f3, f4), (g0, g1, g2, g3, g4, h0, h1, h2, h3, h4)), w, x, y, z)

/-- Which of a trip's sixty-four slices stream `k` takes as its `u`-th. -/
def slot (k u : Nat) : Fin 64 := Fin.ofNat 64 (4 * u + k)

/-- The `r`-th slice of trip `k`, of the block of logits. -/
def ldc (a1 : Memref sig .tc .vmem S8x100000 .f32) (X1 : BufTy.Contents (Elt F) a1.view.ty) (k : Fin k0_t1_loop.trips)
    (r : Fin 64) : FV F :=
  View.readAt (Elt F) a1.view
    (Rect.unit (s := S8x100000) (k0_off1 k (BitVec.ofNat 32 (128 * r.val))) S8x128.size (Facts₀.k0_off1_inb k r)).toLoadRect X1

/-- The `r`-th slice of trip `k`, of the block of counts. -/
def ldn (a2 : Memref sig .tc .vmem S8x100000 .i32) (X2 : BufTy.Contents (Elt F) a2.view.ty) (k : Fin k0_t1_loop.trips)
    (r : Fin 64) : NV :=
  View.readAt (Elt F) a2.view
    (Rect.unit (s := S8x100000) (k0_off1 k (BitVec.ofNat 32 (128 * r.val))) S8x128.size (Facts₀.k0_off1_inb k r)).toLoadRect X2

/-- Counts packed with their columns: the count plus four times the column, the slice starting at column `w` and `v2`
    holding four times the lane. -/
def pack (v2 : NV) (w : BitVec 32) (n : NV) : NV :=
  addi n (addi v2 (broadcast S8x128 (Scalar.shli w 2#32)))

/-- The first column of the `r`-th slice of trip `k`. -/
def col (k : Fin k0_t1_loop.trips) (r : Fin 64) : BitVec 32 :=
  Scalar.addi (Scalar.muli (Scf.iv 0#32 1#32 k) 8192#32) (BitVec.ofNat 32 (128 * r.val))

/-- One trip of the loop. -/
def trip (v2 : NV) (a1 : Memref sig .tc .vmem S8x100000 .f32) (X1 : BufTy.Contents (Elt F) a1.view.ty)
    (a2 : Memref sig .tc .vmem S8x100000 .i32) (X2 : BufTy.Contents (Elt F) a2.view.ty) (k : Fin k0_t1_loop.trips)
    (s : St F) : St F :=
  let one (j : Nat) (l : Lst F) : Lst F :=
    insN (fun u => ldc a1 X1 k (slot j u)) (fun u => pack v2 (col k (slot j u)) (ldn a2 X2 k (slot j u))) l 16
  let sum (j : Nat) (a : FV F) : FV F := addN (fun u => ldc a1 X1 k (slot j u)) a 16
  ((one 0 s.1.1, one 1 s.1.2.1, one 2 s.1.2.2.1, one 3 s.1.2.2.2),
    sum 0 s.2.1, sum 1 s.2.2.1, sum 2 s.2.2.2.1, sum 3 s.2.2.2.2)

set_option maxHeartbeats 4000000 in
/-- What the run found one trip to yield is the trip above. -/
theorem tripR_eq (𝒱 : Variants) (c : Dev nD) (bd : Option 𝒱.V) (i : grid0.Coords) (arg1 : Memref sig .tc .vmem S8x100000 .f32) (harg1 : arg1.IsWhole) (arg2 : Memref sig .tc .vmem S8x100000 .i32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x1 .f32) (harg6 : arg6.IsWhole) (arg7 : Memref sig .tc .vmem S8x100000 .i32) (harg7 : arg7.IsWhole)
    (v2 : NV) (v3 v4 v5 v6 v7 : FV F) (v8 v9 v10 v11 v12 : NV) (v13 v14 v15 v16 v17 : FV F) (v18 v19 v20 v21 v22 : NV) (v23 v24 v25 v26 v27 : FV F) (v28 v29 : NV) (w : BitVec 32)
    (X1 : BufTy.Contents (Elt F) arg1.view.ty) (X2 : BufTy.Contents (Elt F) arg2.view.ty) (k : Fin k0_t1_loop.trips)
    (acc : Flat F) :
    toSt (tripR_k0_t1 (F := F) 𝒱 c bd i arg1 harg1 arg2 harg2 arg3 harg3 arg4 harg4 arg5 harg5 arg6 harg6 arg7 harg7
        v2 v3 v4 v5 v6 v7 v8 v9 v10 v11 v12 v13 v14 v15 v16 v17 v18 v19 v20 v21 v22 v23 v24 v25 v26 v27 v28 v29 w X1 X2 k acc)
      = trip v2 arg1 X1 arg2 X2 k (toSt acc) := by
  sl_kernel_rfl

end Cert.KernelIdeal.Vecs

end
-- ==== Proof.Body.lean ====
/- What the kernel's body writes of one block of eight rows, as vectors: after the loop the remaining slices, the last
   slice masked to the columns not seen before, then the five greatest of every row, the penalised probabilities, the
   sampled choice and the updated counts. -/
module

public import proofs.«01_k».proof.Proof.Vecs
public import proofs.«01_k».proof.Proof.Gen.KernelIdeal.Frame

@[expose] public section

set_option maxRecDepth 16384

noncomputable section

namespace Cert.KernelIdeal.Vecs

open Idealize.ShloMosaic Idealize.ShloMosaic.TcCoe Idealize.ShloMosaic.Tactic
open Cert.KernelIdeal Cert.KernelIdeal.Gen

variable {F : FTy → Type} [FloatOps F]

/-- The lane of every place of a slice. -/
def lane : NV := iota .tc S8x128 32 [1] iota_S8x128_d1_w32
/-- Four times the lane. -/
def lane4 : NV := shli lane (broadcast S8x128 2#32)
/-- A slice of negative infinity. -/
def negV : FV F := broadcast S8x128 (Scalar.ofBits .f32 0xFF800000#32)
/-- A slice of the word greater than every packed one. -/
def bigV : NV := broadcast S8x128 1073741824#32
/-- A slice of zeros. -/
def zeroV : FV F := broadcast S8x128 (Scalar.ofBits .f32 0x00000000#32)

/-- What the loop starts with. -/
def init : Flat F :=
  (negV, negV, negV, negV, negV, bigV, bigV, bigV, bigV, bigV, negV, negV, negV, negV, negV, bigV, bigV, bigV, bigV, bigV,
   negV, negV, negV, negV, negV, bigV, bigV, bigV, bigV, bigV, negV, negV, negV, negV, negV, bigV, bigV, bigV, bigV, bigV,
   zeroV, zeroV, zeroV, zeroV)

theorem tl_inb (n : Fin 13) : ∀ a, (![0, 98304 + 128 * n.val] : Fin 2 → Nat) a + S8x128.size a ≤ S8x100000.size a := by
  revert n; decide +kernel

/-- The `n`-th slice after the loop, of the block of logits. -/
def tlc (a1 : Memref sig .tc .vmem S8x100000 .f32) (X1 : BufTy.Contents (Elt F) a1.view.ty) (n : Fin 13) : FV F :=
  View.readAt (Elt F) a1.view
    (Rect.unit (s := S8x100000) ![0, 98304 + 128 * n.val] S8x128.size (tl_inb n)).toLoadRect X1

/-- The `n`-th slice after the loop, of the block of counts. -/
def tln (a2 : Memref sig .tc .vmem S8x100000 .i32) (X2 : BufTy.Contents (Elt F) a2.view.ty) (n : Fin 13) : NV :=
  View.readAt (Elt F) a2.view
    (Rect.unit (s := S8x100000) ![0, 98304 + 128 * n.val] S8x128.size (tl_inb n)).toLoadRect X2

/-- Its packed words. -/
def tlq (a2 : Memref sig .tc .vmem S8x100000 .i32) (X2 : BufTy.Contents (Elt F) a2.view.ty) (n : Fin 13) : NV :=
  addi (tln a2 X2 n) (addi lane4 (broadcast S8x128 (BitVec.ofNat 32 (4 * (98304 + 128 * n.val)))))

/-- The lanes of the last slice no earlier slice has seen. -/
def keep : IVec S8x128 1 := cmpi .sge lane (broadcast S8x128 96#32)

/-- The last slice, masked. -/
def lastc (a1 : Memref sig .tc .vmem S8x100000 .f32) (X1 : BufTy.Contents (Elt F) a1.view.ty) : FV F :=
  select keep (View.readAt (Elt F) a1.view
    (Rect.unit (s := S8x100000) ![0, 99872] S8x128.size inb_S8x100000_S8x128_0_99872).toLoadRect X1) negV

/-- Its packed words, masked. -/
def lastq (a2 : Memref sig .tc .vmem S8x100000 .i32) (X2 : BufTy.Contents (Elt F) a2.view.ty) : NV :=
  select keep (addi (View.readAt (Elt F) a2.view
    (Rect.unit (s := S8x100000) ![0, 99872] S8x128.size inb_S8x100000_S8x128_0_99872).toLoadRect X2)
      (addi lane4 (broadcast S8x128 399488#32))) bigV

/-- The slices after the loop. -/
def tail (a1 : Memref sig .tc .vmem S8x100000 .f32) (X1 : BufTy.Contents (Elt F) a1.view.ty)
    (a2 : Memref sig .tc .vmem S8x100000 .i32) (X2 : BufTy.Contents (Elt F) a2.view.ty) (s : St F) : St F :=
  let one (j n : Nat) (l : Lst F) : Lst F :=
    insN (fun u => tlc a1 X1 (Fin.ofNat 13 (4 * u + j))) (fun u => tlq a2 X2 (Fin.ofNat 13 (4 * u + j))) l n
  let sum (j n : Nat) (a : FV F) : FV F := addN (fun u => tlc a1 X1 (Fin.ofNat 13 (4 * u + j))) a n
  ((one 0 4 s.1.1, one 1 3 s.1.2.1, one 2 3 s.1.2.2.1, ins (one 3 3 s.1.2.2.2) (lastc a1 X1) (lastq a2 X2)),
    sum 0 4 s.2.1, sum 1 3 s.2.2.1, sum 2 3 s.2.2.2.1, addExp (sum 3 3 s.2.2.2.2) (lastc a1 X1))

/-- All the values the lanes of a row keep, side by side. -/
def tAll (s : St F) : FVec F S8x2560 .f32 :=
  let a := s.1.1
  let b := s.1.2.1
  let c := s.1.2.2.1
  let d := s.1.2.2.2
  concatenate S8x2560 1 [⟨S8x128, a.1⟩, ⟨S8x128, a.2.1⟩, ⟨S8x128, a.2.2.1⟩, ⟨S8x128, a.2.2.2.1⟩, ⟨S8x128, a.2.2.2.2.1⟩,
    ⟨S8x128, b.1⟩, ⟨S8x128, b.2.1⟩, ⟨S8x128, b.2.2.1⟩, ⟨S8x128, b.2.2.2.1⟩, ⟨S8x128, b.2.2.2.2.1⟩,
    ⟨S8x128, c.1⟩, ⟨S8x128, c.2.1⟩, ⟨S8x128, c.2.2.1⟩, ⟨S8x128, c.2.2.2.1⟩, ⟨S8x128, c.2.2.2.2.1⟩,
    ⟨S8x128, d.1⟩, ⟨S8x128, d.2.1⟩, ⟨S8x128, d.2.2.1⟩, ⟨S8x128, d.2.2.2.1⟩, ⟨S8x128, d.2.2.2.2.1⟩]
    concatenates_S8x128_S8x128_S8x128_S8x128_S8x128_S8x128_S8x128_S8x128_S8x128_S8x128_S8x128_S8x128_S8x128_S8x128_S8x128_S8x128_S8x128_S8x128_S8x128_S8x128_S8x2560_d1

/-- All the packed words, in the same order. -/
def pAll (s : St F) : IVec S8x2560 32 :=
  let a := s.1.1.2.2.2.2.2
  let b := s.1.2.1.2.2.2.2.2
  let c := s.1.2.2.1.2.2.2.2.2
  let d := s.1.2.2.2.2.2.2.2.2
  concatenate S8x2560 1 [⟨S8x128, a.1⟩, ⟨S8x128, a.2.1⟩, ⟨S8x128, a.2.2.1⟩, ⟨S8x128, a.2.2.2.1⟩, ⟨S8x128, a.2.2.2.2⟩,
    ⟨S8x128, b.1⟩, ⟨S8x128, b.2.1⟩, ⟨S8x128, b.2.2.1⟩, ⟨S8x128, b.2.2.2.1⟩, ⟨S8x128, b.2.2.2.2⟩,
    ⟨S8x128, c.1⟩, ⟨S8x128, c.2.1⟩, ⟨S8x128, c.2.2.1⟩, ⟨S8x128, c.2.2.2.1⟩, ⟨S8x128, c.2.2.2.2⟩,
    ⟨S8x128, d.1⟩, ⟨S8x128, d.2.1⟩, ⟨S8x128, d.2.2.1⟩, ⟨S8x128, d.2.2.2.1⟩, ⟨S8x128, d.2.2.2.2⟩]
    concatenates_S8x128_S8x128_S8x128_S8x128_S8x128_S8x128_S8x128_S8x128_S8x128_S8x128_S8x128_S8x128_S8x128_S8x128_S8x128_S8x128_S8x128_S8x128_S8x128_S8x128_S8x2560_d1

/-- Every row's greatest value. -/
def vmax (t : FVec F S8x2560 .f32) : FVec F S8x1 .f32 :=
  shapeCast S8x1 (multiReduction .maximumf [1] S8 t 0xFF800000#32 reduces_S8x2560_S8 (.inl rfl) rfl) shapeCasts_S8_S8x1

/-- The least packed word among the places holding the row's value `v`. -/
def pmin (t : FVec F S8x2560 .f32) (p : IVec S8x2560 32) (v : FVec F S8x1 .f32) : IVec S8x1 32 :=
  shapeCast S8x1 (multiReductionI .minsi [1] S8
    (select (cmpf .oeq t (broadcastTo S8x2560 v broadcasts_S8x1_S8x2560)) p (broadcast S8x2560 1073741824#32))
    2147483647#32 reduces_S8x2560_S8 rfl) shapeCasts_S8_S8x1

/-- The values with the place taken put to negative infinity. -/
def kill (t : FVec F S8x2560 .f32) (p : IVec S8x2560 32) (v : FVec F S8x1 .f32) (w : IVec S8x1 32) : FVec F S8x2560 .f32 :=
  select (andi (cmpf .oeq t (broadcastTo S8x2560 v broadcasts_S8x1_S8x2560))
      (cmpi .eq p (broadcastTo S8x2560 w broadcasts_S8x1_S8x2560)))
    (broadcast S8x2560 (Scalar.ofBits .f32 0xFF800000#32)) t

/-- The values left after `r` rounds. -/
def left (s : St F) : Nat → FVec F S8x2560 .f32
  | 0 => tAll s
  | r + 1 => kill (left s r) (pAll s) (vmax (left s r)) (pmin (left s r) (pAll s) (vmax (left s r)))

/-- The value round `r` takes. -/
def top (s : St F) (r : Nat) : FVec F S8x1 .f32 := vmax (left s r)
/-- The packed word round `r` takes. -/
def topP (s : St F) (r : Nat) : IVec S8x1 32 := pmin (left s r) (pAll s) (top s r)
/-- The column round `r` takes. -/
def topI (s : St F) (r : Nat) : IVec S8x1 32 := shrsi (topP s r) (broadcast S8x1 2#32)
/-- The count at that column. -/
def topN (s : St F) (r : Nat) : IVec S8x1 32 := andi (topP s r) (broadcast S8x1 3#32)

/-- The row's sum of exponentials, relative to its greatest value. -/
def sumE (s : St F) : FVec F S8x1 .f32 :=
  mulf (shapeCast S8x1 (multiReduction .add [1] S8 (addf (addf (addf s.2.1 s.2.2.1) s.2.2.2.1) s.2.2.2.2)
      0x00000000#32 reduces_S8x128_S8 (.inl rfl) rfl) shapeCasts_S8_S8x1)
    (exp (subf (broadcast S8x1 (Scalar.ofBits .f32 0x41400000#32)) (top s 0)))

/-- The probability of the word round `r` takes. -/
def prb (s : St F) (r : Nat) : FVec F S8x1 .f32 := divf (exp (subf (top s r) (top s 0))) (sumE s)

/-- The rows whose gate is open. -/
def gate (g : FVec F S8x1 .f32) : IVec S8x1 1 :=
  cmpf .ogt (shapeCast S8x1 g shapeCasts_S8x1_S8x1) (broadcast S8x1 (Scalar.ofBits .f32 0x3E19999A#32))

/-- The probability, penalised by its count where the gate is open. -/
def pen (s : St F) (g : FVec F S8x1 .f32) (r : Nat) : FVec F S8x1 .f32 :=
  select (gate g) (divf (prb s r) (addf (broadcast S8x1 (Scalar.ofBits .f32 0x3F800000#32))
    (mulf (broadcast S8x1 (Scalar.ofBits .f32 0x40000000#32)) (sitofp .f32 (topN s r))))) (prb s r)

/-- The sum of the first `r + 1` of them. -/
def cdf (s : St F) (g : FVec F S8x1 .f32) : Nat → FVec F S8x1 .f32
  | 0 => pen s g 0
  | r + 1 => addf (cdf s g r) (pen s g (r + 1))

/-- Whether the `r`-th of these sums is below the drawn number. -/
def under (s : St F) (g n : FVec F S8x1 .f32) (r : Nat) : IVec S8x1 32 :=
  extui 32 (cmpf .olt (cdf s g r) (mulf (shapeCast S8x1 n shapeCasts_S8x1_S8x1) (cdf s g 4))) natLt_1_32

/-- The choice: how many are below, at most four. -/
def choice (s : St F) (g n : FVec F S8x1 .f32) : IVec S8x1 32 :=
  minsi (broadcast S8x1 4#32) (maxsi (broadcast S8x1 0#32)
    (addi (addi (addi (addi (under s g n 0) (under s g n 1)) (under s g n 2)) (under s g n 3)) (under s g n 4)))

/-- The chosen one of five vectors. -/
def pick {α : Type} (h : IVec S8x1 32) (f : Nat → S8x1.Idx → α) : S8x1.Idx → α :=
  select (cmpi .eq h (broadcast S8x1 0#32)) (f 0) (select (cmpi .eq h (broadcast S8x1 1#32)) (f 1)
    (select (cmpi .eq h (broadcast S8x1 2#32)) (f 2) (select (cmpi .eq h (broadcast S8x1 3#32)) (f 3) (f 4))))

/-- The word written. -/
def word (s : St F) (g n : FVec F S8x1 .f32) : IVec S8x1 32 := pick (choice s g n) (topI s)
/-- The probability written. -/
def prob (s : St F) (g n : FVec F S8x1 .f32) : FVec F S8x1 .f32 := pick (choice s g n) (prb s)
/-- The counts written. -/
def cnts (s : St F) (g n : FVec F S8x1 .f32) (x : IVec S8x100000 32) : IVec S8x100000 32 :=
  addi x (extui 32 (cmpi .eq (iota .tc S8x100000 32 [1] iota_S8x100000_d1_w32)
    (broadcastTo S8x100000 (select (gate g) (word s g n) (broadcast S8x1 4294967295#32)) broadcasts_S8x1_S8x100000)) natLt_1_32)

section
variable (c : Dev nD) (i : grid0.Coords) (arg1 : Memref sig .tc .vmem S8x100000 .f32) (harg1 : arg1.IsWhole) (arg2 : Memref sig .tc .vmem S8x100000 .i32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x1 .f32) (harg6 : arg6.IsWhole) (arg7 : Memref sig .tc .vmem S8x100000 .i32) (harg7 : arg7.IsWhole)
  (x0 : Vec F S8x100000 .f32) (x1 : Vec F S8x100000 .i32) (x2 : Vec F S8x1 .f32) (x3 : Vec F S8x1 .f32)

/-- What the loop carries before trip `k`, as the run finds it. -/
def carried (k : Nat) : Flat F :=
  st_k0_t1 (F := F) Variants.none c none i arg1 harg1 arg2 harg2 arg3 harg3 arg4 harg4 arg5 harg5 arg6 harg6 arg7 harg7
    lane4 negV negV negV negV negV bigV bigV bigV bigV bigV negV negV negV negV negV bigV bigV bigV bigV bigV
    negV negV negV negV negV bigV bigV 1073741824#32 (harg1.unread x0) (harg2.unread x1) init k

/-- What the four streams hold when every slice has been seen, as the run finds it. -/
def fin : St F :=
  tail arg1 (harg1.unread x0) arg2 (harg2.unread x1)
    (toSt (carried c i arg1 harg1 arg2 harg2 arg3 harg3 arg4 harg4 arg5 harg5 arg6 harg6 arg7 harg7 x0 x1 k0_t1_loop.trips))

/-- The loaded gates. -/
def ldg : FVec F S8x1 .f32 :=
  View.readAt (Elt F) arg3.view (Rect.unit (s := S8x1) ![0, 0] S8x1.size inb_S8x1_S8x1_0_0).toLoadRect (harg3.unread x2)

/-- The loaded noise. -/
def ldz : FVec F S8x1 .f32 :=
  View.readAt (Elt F) arg4.view (Rect.unit (s := S8x1) ![0, 0] S8x1.size inb_S8x1_S8x1_0_0).toLoadRect (harg4.unread x3)

set_option maxHeartbeats 4000000 in
/-- The one piece the run leaves of the words. -/
theorem run_word : (kernelRun0_A c i arg1 harg1 arg2 harg2 arg3 harg3 arg4 harg4 arg5 harg5 arg6 harg6 arg7 harg7 x0 x1 x2 x3).1
    = [⟨Rect.unit (s := S8x1) ![0, 0] S8x1.size inb_S8x1_S8x1_0_0, word (fin c i arg1 harg1 arg2 harg2 arg3 harg3 arg4 harg4 arg5 harg5 arg6 harg6 arg7 harg7 x0 x1) (ldg arg3 harg3 x2) (ldz arg4 harg4 x3)⟩] := by
  sl_kernel_rfl

set_option maxHeartbeats 4000000 in
/-- The one piece the run leaves of the probabilities. -/
theorem run_prob : (kernelRun0_A c i arg1 harg1 arg2 harg2 arg3 harg3 arg4 harg4 arg5 harg5 arg6 harg6 arg7 harg7 x0 x1 x2 x3).2.1
    = [⟨Rect.unit (s := S8x1) ![0, 0] S8x1.size inb_S8x1_S8x1_0_0, prob (fin c i arg1 harg1 arg2 harg2 arg3 harg3 arg4 harg4 arg5 harg5 arg6 harg6 arg7 harg7 x0 x1) (ldg arg3 harg3 x2) (ldz arg4 harg4 x3)⟩] := by
  sl_kernel_rfl

set_option maxHeartbeats 4000000 in
/-- The one piece the run leaves of the counts. -/
theorem run_cnts : (kernelRun0_A c i arg1 harg1 arg2 harg2 arg3 harg3 arg4 harg4 arg5 harg5 arg6 harg6 arg7 harg7 x0 x1 x2 x3).2.2.1
    = [⟨Rect.unit (s := S8x100000) ![0, 0] S8x100000.size inb_S8x100000_S8x100000_0_0,
        cnts (fin c i arg1 harg1 arg2 harg2 arg3 harg3 arg4 harg4 arg5 harg5 arg6 harg6 arg7 harg7 x0 x1) (ldg arg3 harg3 x2) (ldz arg4 harg4 x3) (View.readAt (Elt F) arg2.view
          (Rect.unit (s := S8x100000) ![0, 0] S8x100000.size inb_S8x100000_S8x100000_0_0).toLoadRect (harg2.unread x1))⟩] := by
  sl_kernel_rfl

end

end Cert.KernelIdeal.Vecs

end
-- ==== Proof.Cells.lean ====
/- What one lane of one stream keeps: inserting a value drops a least one, so that as long as at most five of the inserted
   values reach a bound, exactly those are kept; and where the concatenated vectors hold what the lanes keep. -/
module

public import proofs.«01_k».proof.Proof.Body
public import Idealize.ShloMosaic.Lib.Pointwise

@[expose] public section

set_option maxRecDepth 16384

noncomputable section

namespace Cert.KernelIdeal.Vecs

open Idealize.ShloMosaic
open Cert.KernelIdeal Cert.KernelIdeal.Gen

/-- A value and its packed word. -/
abbrev Item := EReal × BitVec 32

/-- The five pairs a lane keeps. -/
def ms (l : Lst Ideal) (y : S8x128.Idx) : Multiset Item :=
  {(l.1 y, l.2.2.2.2.2.1 y)} + {(l.2.1 y, l.2.2.2.2.2.2.1 y)} + {(l.2.2.1 y, l.2.2.2.2.2.2.2.1 y)} +
    {(l.2.2.2.1 y, l.2.2.2.2.2.2.2.2.1 y)} + {(l.2.2.2.2.1 y, l.2.2.2.2.2.2.2.2.2 y)}

theorem card_ms (l : Lst Ideal) (y : S8x128.Idx) : (ms l y).card = 5 := rfl

/-- What happens at one place of a list: two pairs meet, `a` coming and `i` there, and the same two come out, `j` staying
    and `b` handed on, whose value is no greater than either. -/
def Meets (a i j b : Item) : Prop := (({j} + {b} : Multiset Item) = {a} + {i}) ∧ b.1 ≤ a.1 ∧ b.1 ≤ i.1

theorem meets (c t : FV Ideal) (q p : NV) (y : S8x128.Idx) :
    Meets (c y, q y) (t y, p y) (hi c t y, qhi c t q p y) (lo c t y, qlo c t q p y) := by
  have e1 : hi c t y = if (t y : EReal) < c y then c y else t y := by pointwise [hi]
  have e2 : qhi c t q p y = if (t y : EReal) < c y then q y else p y := by pointwise [qhi]
  have e3 : lo c t y = if (t y : EReal) < c y then t y else c y := by pointwise [lo]
  have e4 : qlo c t q p y = if (t y : EReal) < c y then p y else q y := by pointwise [qlo]
  rw [e1, e2, e3, e4]
  by_cases h : (t y : EReal) < c y
  · rw [if_pos h, if_pos h, if_pos h, if_pos h]
    exact ⟨rfl, h.le, le_rfl⟩
  · rw [if_neg h, if_neg h, if_neg h, if_neg h]
    exact ⟨add_comm _ _, le_rfl, not_lt.mp h⟩

/-- Five places one after the other: what comes out is what went in, and the last handed on is no greater than any. -/
theorem five {i0 i1 i2 i3 i4 j0 j1 j2 j3 j4 a0 a1 a2 a3 a4 a5 : Item} (h0 : Meets a0 i0 j0 a1) (h1 : Meets a1 i1 j1 a2)
    (h2 : Meets a2 i2 j2 a3) (h3 : Meets a3 i3 j3 a4) (h4 : Meets a4 i4 j4 a5) :
    ({j0} + {j1} + {j2} + {j3} + {j4} + {a5} : Multiset Item) = {i0} + {i1} + {i2} + {i3} + {i4} + {a0}
      ∧ ∀ e ∈ ({i0} + {i1} + {i2} + {i3} + {i4} + {a0} : Multiset Item), a5.1 ≤ e.1 := by
  constructor
  · apply add_right_cancel (b := ({a1} + {a2} + {a3} + {a4} : Multiset Item))
    calc ({j0} + {j1} + {j2} + {j3} + {j4} + {a5} + ({a1} + {a2} + {a3} + {a4}) : Multiset Item)
        = ({j0} + {a1}) + ({j1} + {a2}) + ({j2} + {a3}) + ({j3} + {a4}) + ({j4} + {a5}) := by abel
      _ = ({a0} + {i0}) + ({a1} + {i1}) + ({a2} + {i2}) + ({a3} + {i3}) + ({a4} + {i4}) := by
          rw [h0.1, h1.1, h2.1, h3.1, h4.1]
      _ = _ := by abel
  · have l4 := h4.2.1
    have l3 := l4.trans h3.2.1
    have l2 := l3.trans h2.2.1
    have l1 := l2.trans h1.2.1
    have l0 := l1.trans h0.2.1
    intro e he
    simp only [Multiset.mem_add, Multiset.mem_singleton] at he
    rcases he with ((((rfl | rfl) | rfl) | rfl) | rfl) | rfl
    · exact l1.trans h0.2.2
    · exact l2.trans h1.2.2
    · exact l3.trans h2.2.2
    · exact l4.trans h3.2.2
    · exact h4.2.2
    · exact l0

/-- What inserting leaves, place by place. -/
theorem ms_ins_eq (l : Lst Ideal) (c c1 c2 c3 c4 : FV Ideal) (q q1 q2 q3 q4 : NV) (y : S8x128.Idx)
    (h1 : c1 = lo c l.1) (k1 : q1 = qlo c l.1 q l.2.2.2.2.2.1) (h2 : c2 = lo c1 l.2.1) (k2 : q2 = qlo c1 l.2.1 q1 l.2.2.2.2.2.2.1)
    (h3 : c3 = lo c2 l.2.2.1) (k3 : q3 = qlo c2 l.2.2.1 q2 l.2.2.2.2.2.2.2.1) (h4 : c4 = lo c3 l.2.2.2.1)
    (k4 : q4 = qlo c3 l.2.2.2.1 q3 l.2.2.2.2.2.2.2.2.1) :
    ms (ins l c q) y = {(hi c l.1 y, qhi c l.1 q l.2.2.2.2.2.1 y)} + {(hi c1 l.2.1 y, qhi c1 l.2.1 q1 l.2.2.2.2.2.2.1 y)} +
      {(hi c2 l.2.2.1 y, qhi c2 l.2.2.1 q2 l.2.2.2.2.2.2.2.1 y)} + {(hi c3 l.2.2.2.1 y, qhi c3 l.2.2.2.1 q3 l.2.2.2.2.2.2.2.2.1 y)} +
      {(hi c4 l.2.2.2.2.1 y, qhi c4 l.2.2.2.2.1 q4 l.2.2.2.2.2.2.2.2.2 y)} := by
  subst h1 k1 h2 k2 h3 k3 h4 k4
  simp only [ms, ins]

/-- Inserting a pair keeps five of the six and drops one whose value is no greater than any of the six. -/
theorem ms_ins (l : Lst Ideal) (c : FV Ideal) (q : NV) (y : S8x128.Idx) :
    ∃ d : Item, ms (ins l c q) y + {d} = ms l y + {(c y, q y)} ∧ ∀ e ∈ ms l y + {(c y, q y)}, d.1 ≤ e.1 := by
  obtain ⟨c1, h1⟩ : ∃ c1, c1 = lo c l.1 := ⟨_, rfl⟩
  obtain ⟨q1, k1⟩ : ∃ q1, q1 = qlo c l.1 q l.2.2.2.2.2.1 := ⟨_, rfl⟩
  obtain ⟨c2, h2⟩ : ∃ c2, c2 = lo c1 l.2.1 := ⟨_, rfl⟩
  obtain ⟨q2, k2⟩ : ∃ q2, q2 = qlo c1 l.2.1 q1 l.2.2.2.2.2.2.1 := ⟨_, rfl⟩
  obtain ⟨c3, h3⟩ : ∃ c3, c3 = lo c2 l.2.2.1 := ⟨_, rfl⟩
  obtain ⟨q3, k3⟩ : ∃ q3, q3 = qlo c2 l.2.2.1 q2 l.2.2.2.2.2.2.2.1 := ⟨_, rfl⟩
  obtain ⟨c4, h4⟩ : ∃ c4, c4 = lo c3 l.2.2.2.1 := ⟨_, rfl⟩
  obtain ⟨q4, k4⟩ : ∃ q4, q4 = qlo c3 l.2.2.2.1 q3 l.2.2.2.2.2.2.2.2.1 := ⟨_, rfl⟩
  rw [ms_ins_eq l c c1 c2 c3 c4 q q1 q2 q3 q4 y h1 k1 h2 k2 h3 k3 h4 k4]
  have m0 := meets c l.1 q l.2.2.2.2.2.1 y
  have m1 := meets c1 l.2.1 q1 l.2.2.2.2.2.2.1 y
  have m2 := meets c2 l.2.2.1 q2 l.2.2.2.2.2.2.2.1 y
  have m3 := meets c3 l.2.2.2.1 q3 l.2.2.2.2.2.2.2.2.1 y
  have m4 := meets c4 l.2.2.2.2.1 q4 l.2.2.2.2.2.2.2.2.2 y
  rw [← h1, ← k1] at m0
  rw [← h2, ← k2] at m1
  rw [← h3, ← k3] at m2
  rw [← h4, ← k4] at m3
  exact ⟨_, five m0 m1 m2 m3 m4⟩

/-- The pairs of a multiset whose values reach a bound. -/
def above (τ : EReal) (m : Multiset Item) : Multiset Item := m.filter fun e => τ ≤ e.1

theorem above_add (τ : EReal) (m n : Multiset Item) : above τ (m + n) = above τ m + above τ n := Multiset.filter_add _ _ _

/-- The pairs kept that reach the bound are, if these are at most five, the inserted ones that do. -/
def Keeps (τ : EReal) (m A : Multiset Item) : Prop := (above τ A).card ≤ 5 → above τ m = above τ A

/-- Inserting keeps that so. -/
theorem keeps_ins {τ : EReal} {l : Lst Ideal} {y : S8x128.Idx} {A : Multiset Item} (h : Keeps τ (ms l y) A) (c : FV Ideal)
    (q : NV) : Keeps τ (ms (ins l c q) y) (A + {(c y, q y)}) := by
  intro hc
  rw [above_add] at hc ⊢
  have hA := h ((Multiset.card_le_card (Multiset.le_add_right _ _)).trans hc)
  obtain ⟨d, hd, hmin⟩ := ms_ins l c q y
  have hlow : ¬ τ ≤ d.1 := fun hτ => by
    have hall : above τ (ms l y + {(c y, q y)}) = ms l y + {(c y, q y)} :=
      Multiset.filter_eq_self.mpr fun e he => hτ.trans (hmin e he)
    rw [← hA, ← above_add, hall, Multiset.card_add, card_ms] at hc
    simp at hc
  have := congrArg (above τ) hd
  rw [above_add, above_add, hA] at this
  rw [← this]
  have h0 : above τ {d} = 0 := Multiset.filter_eq_nil.mpr fun e he => by rw [Multiset.mem_singleton.mp he]; exact hlow
  rw [h0, add_zero]

/-- So for several slices. -/
theorem keeps_insN {τ : EReal} {l : Lst Ideal} {y : S8x128.Idx} {A : Multiset Item} (h : Keeps τ (ms l y) A)
    (c : Nat → FV Ideal) (q : Nat → NV) (n : Nat) :
    Keeps τ (ms (insN c q l n) y) (A + (Multiset.range n).map fun u => (c u y, q u y)) := by
  induction n with
  | zero => simpa [insN] using h
  | succ n ih =>
    have := keeps_ins ih (c n) (q n)
    rwa [add_assoc, add_comm (Multiset.map _ _), ← Multiset.map_singleton (fun u => ((c u y, q u y) : Item)), ← Multiset.map_add,
      Multiset.singleton_add, ← Multiset.range_succ] at this

/-- The running sum after several slices. -/
theorem addN_apply (c : Nat → FV Ideal) (a : FV Ideal) (n : Nat) (y : S8x128.Idx) :
    (addN c a n y : EReal) = a y + ∑ u ∈ Finset.range n, Ideal.exp (c u y - Ideal.ofBits FTy.f32 0x41400000#32) := by
  induction n with
  | zero => simp [addN]
  | succ n ih =>
    rw [Finset.sum_range_succ, ← add_assoc, ← ih]
    show addExp (addN c a n) (c n) y = _
    pointwise [addExp]

end Cert.KernelIdeal.Vecs

end
-- ==== Proof.Block.lean ====
/- What the lanes keep when every slice of a block has been seen: each lane of each stream has seen its share of the
   columns, the shares of all lanes make up the row, and the running sums are the sums over the shares. -/
module

public import proofs.«01_k».proof.Proof.Cells
public import Idealize.ShloMosaic.Lib.Pipeline.ValueKit.Tiles

@[expose] public section

set_option maxRecDepth 16384

noncomputable section

namespace Cert.KernelIdeal.Vecs

open Idealize.ShloMosaic
open Cert.KernelIdeal Cert.KernelIdeal.Gen

/-- Row `i` of a block of logits, by column number. -/
def rowX (x0 : Vec Ideal S8x100000 .f32) (i : Fin 8) (n : Nat) : EReal := x0 (ix2 i (Fin.ofNat 100000 n))
/-- Row `i` of a block of counts, by column number. -/
def rowC (x1 : Vec Ideal S8x100000 .i32) (i : Fin 8) (n : Nat) : BitVec 32 := x1 (ix2 i (Fin.ofNat 100000 n))
/-- The count of a column packed with its number. -/
def packed (x1 : Vec Ideal S8x100000 .i32) (i : Fin 8) (n : Nat) : BitVec 32 := rowC x1 i n + BitVec.ofNat 32 (4 * n)
/-- A column's value and packed word. -/
def item (x0 : Vec Ideal S8x100000 .f32) (x1 : Vec Ideal S8x100000 .i32) (i : Fin 8) (n : Nat) : Item :=
  (rowX x0 i n, packed x1 i n)
/-- What a column adds to a running sum. -/
def term (x0 : Vec Ideal S8x100000 .f32) (i : Fin 8) (n : Nat) : EReal :=
  Ideal.exp (rowX x0 i n - Ideal.ofBits FTy.f32 0x41400000#32)

/-- The stream and lane that see a column. -/
def cell (n : Nat) : Nat × Nat := if n < 99968 then (n / 128 % 4, n % 128) else (3, n - 99872)

/-- The columns a lane of a stream sees. -/
def share (j ℓ : Nat) : Finset Nat := (Finset.range 100000).filter fun n => cell n = (j, ℓ)

/-- How many slices a stream sees beside the last, masked one. -/
def slices (j : Nat) : Nat := if j = 0 then 196 else 195

/-- A shift to the left by two is a multiplication by four. -/
theorem shl_two (u : ArithUnit) (x : BitVec 32) : IntOp.shli u x 2#32 = BitVec.ofNat 32 (4 * x.toNat) := by
  rw [IntOp.shli, if_pos (by decide)]
  apply BitVec.eq_of_toNat_eq
  show (x <<< (2#32).toNat).toNat = _
  rw [BitVec.toNat_shiftLeft, Nat.shiftLeft_eq]
  show x.toNat * 4 % _ = _
  rw [mul_comm, BitVec.toNat_ofNat]

/-- The columns a lane sees, in the order it sees them. -/
theorem share_eq {j ℓ : Nat} (hj : j < 4) (hℓ : ℓ < 128) :
    (share j ℓ).val = (Multiset.range (slices j)).map (fun n => 512 * n + 128 * j + ℓ)
      + (if j = 3 ∧ 96 ≤ ℓ then {99872 + ℓ} else 0) := by
  refine (Multiset.Nodup.ext (share j ℓ).nodup ?_).mpr fun n => ?_
  · have h1 : ((Multiset.range (slices j)).map (fun n => 512 * n + 128 * j + ℓ)).Nodup :=
      Multiset.Nodup.map (fun a b (h : 512 * a + 128 * j + ℓ = 512 * b + 128 * j + ℓ) => by omega) (Multiset.nodup_range _)
    split_ifs with h
    · refine Multiset.nodup_add.mpr ⟨h1, Multiset.nodup_singleton _, Multiset.disjoint_singleton.mpr fun hm => ?_⟩
      obtain ⟨a, ha, e⟩ := Multiset.mem_map.mp hm
      rw [Multiset.mem_range, slices] at ha
      split_ifs at ha <;> omega
    · rwa [add_zero]
  · rw [Finset.mem_val, share, Finset.mem_filter, Finset.mem_range, Multiset.mem_add, Multiset.mem_map, cell]
    constructor
    · rintro ⟨hn, h⟩
      split_ifs at h with hl
      · left
        obtain ⟨rfl, rfl⟩ := Prod.mk.inj h
        refine ⟨n / 512, ?_, by omega⟩
        rw [Multiset.mem_range, slices]
        split_ifs <;> omega
      · right
        obtain ⟨rfl, rfl⟩ := Prod.mk.inj h
        rw [if_pos ⟨rfl, by omega⟩, Multiset.mem_singleton]
        omega
    · rintro (⟨a, ha, rfl⟩ | h)
      · rw [Multiset.mem_range, slices] at ha
        split_ifs at ha <;> refine ⟨by omega, ?_⟩ <;> rw [if_pos (by omega)] <;> exact Prod.ext (by simp only; omega) (by simp only; omega)
      · split_ifs at h with hc
        · rw [Multiset.mem_singleton] at h
          refine ⟨by omega, ?_⟩
          rw [if_neg (by omega)]
          exact Prod.ext (by simp only; omega) (by simp only; omega)
        · simp at h

/-- Summed over the shares of all lanes, a row is summed. -/
theorem sum_shares (f : Nat → EReal) :
    ∑ ℓ : Fin 128, ∑ j : Fin 4, ∑ n ∈ share j.val ℓ.val, f n = ∑ n ∈ Finset.range 100000, f n := by
  rw [← Finset.sum_product' (s := Finset.univ) (t := Finset.univ) (f := fun (ℓ : Fin 128) (j : Fin 4) => ∑ n ∈ share j.val ℓ.val, f n)]
  have hb : ∀ n, n < 100000 → (cell n).1 < 4 ∧ (cell n).2 < 128 := fun n hn => by
    unfold cell; split_ifs <;> constructor <;> simp only <;> omega
  rw [← Finset.sum_fiberwise (s := Finset.range 100000)
    (g := fun n => ((Fin.ofNat 128 (cell n).2, Fin.ofNat 4 (cell n).1) : Fin 128 × Fin 4))]
  rw [Finset.univ_product_univ]
  refine Finset.sum_congr rfl fun p _ => Finset.sum_congr (Finset.ext fun n => ?_) fun _ _ => rfl
  rw [share, Finset.mem_filter, Finset.mem_filter]
  refine and_congr_right fun hn => ?_
  have := hb n (Finset.mem_range.mp hn)
  rw [Prod.ext_iff, Prod.ext_iff, Fin.ext_iff, Fin.ext_iff]
  simp only [Fin.val_ofNat]
  rw [Nat.mod_eq_of_lt this.1, Nat.mod_eq_of_lt this.2, and_comm]

/-- One stream's lists, of four. -/
def lst {F : FTy → Type} (s : St F) : Fin 4 → Lst F := ![s.1.1, s.1.2.1, s.1.2.2.1, s.1.2.2.2]
/-- One stream's running sum, of four. -/
def acc {F : FTy → Type} (s : St F) : Fin 4 → FV F := ![s.2.1, s.2.2.1, s.2.2.2.1, s.2.2.2.2]

section
variable (a1 : Memref sig .tc .vmem S8x100000 .f32) (h1 : a1.IsWhole) (a2 : Memref sig .tc .vmem S8x100000 .i32) (h2 : a2.IsWhole)
  (x0 : Vec Ideal S8x100000 .f32) (x1 : Vec Ideal S8x100000 .i32)

theorem ldc_apply (k : Fin k0_t1_loop.trips) (r : Fin 64) (i : Fin 8) (ℓ : Fin 128) :
    ldc a1 (h1.unread x0) k r (ix2 i ℓ) = rowX x0 i (8192 * k.val + 128 * r.val + ℓ.val) := by
  have hk : k.val < 12 := k.isLt
  unfold ldc
  rw [View.readAt_eq_ld, Memref.IsWhole.read_unread]
  refine View.ld_unit_apply_of x0 _ _ _ _ _ fun a => ?_
  refine Eq.trans ?_ (congrArg (· + _) (congrFun (k0_off1_eq k r) a).symm)
  fin_cases a
  · show i.val = 0 + i.val; omega
  · show (8192 * k.val + 128 * r.val + ℓ.val) % 100000 = 8192 * k.val + 128 * r.val + ℓ.val; omega

theorem ldn_apply (k : Fin k0_t1_loop.trips) (r : Fin 64) (i : Fin 8) (ℓ : Fin 128) :
    ldn a2 (h2.unread x1) k r (ix2 i ℓ) = rowC x1 i (8192 * k.val + 128 * r.val + ℓ.val) := by
  have hk : k.val < 12 := k.isLt
  unfold ldn
  rw [View.readAt_eq_ld, Memref.IsWhole.read_unread]
  refine View.ld_unit_apply_of x1 _ _ _ _ _ fun a => ?_
  refine Eq.trans ?_ (congrArg (· + _) (congrFun (k0_off1_eq k r) a).symm)
  fin_cases a
  · show i.val = 0 + i.val; omega
  · show (8192 * k.val + 128 * r.val + ℓ.val) % 100000 = 8192 * k.val + 128 * r.val + ℓ.val; omega

theorem ldq_apply (k : Fin k0_t1_loop.trips) (r : Fin 64) (i : Fin 8) (ℓ : Fin 128) :
    pack lane4 (col k r) (ldn a2 (h2.unread x1) k r) (ix2 i ℓ) = packed x1 i (8192 * k.val + 128 * r.val + ℓ.val) := by
  have hk : k.val < 12 := k.isLt
  unfold packed
  rw [← ldn_apply a2 h2 x1 k r i ℓ]
  pointwise [pack, lane4, lane, col]
  refine congrArg (_ + ·) ?_
  have hr := r.isLt
  have hl := ℓ.isLt
  rw [shl_two, Scalar.shli, shl_two]
  apply BitVec.eq_of_toNat_eq
  simp only [IntOp.addi, Scalar.addi, Scalar.muli, IntOp.muli, Scf.iv, BitVec.toNat_add, BitVec.toNat_mul, BitVec.toNat_ofNat]
  omega

theorem tlc_apply (n : Fin 13) (i : Fin 8) (ℓ : Fin 128) :
    tlc a1 (h1.unread x0) n (ix2 i ℓ) = rowX x0 i (98304 + 128 * n.val + ℓ.val) := by
  unfold tlc
  rw [View.readAt_eq_ld, Memref.IsWhole.read_unread]
  refine View.ld_unit_apply_of x0 _ _ _ _ _ fun a => ?_
  fin_cases a
  · show i.val = 0 + i.val; omega
  · show (98304 + 128 * n.val + ℓ.val) % 100000 = 98304 + 128 * n.val + ℓ.val; omega

theorem tlq_apply (n : Fin 13) (i : Fin 8) (ℓ : Fin 128) :
    tlq a2 (h2.unread x1) n (ix2 i ℓ) = packed x1 i (98304 + 128 * n.val + ℓ.val) := by
  have hn : tln a2 (h2.unread x1) n (ix2 i ℓ) = rowC x1 i (98304 + 128 * n.val + ℓ.val) := by
    unfold tln
    rw [View.readAt_eq_ld, Memref.IsWhole.read_unread]
    refine View.ld_unit_apply_of x1 _ _ _ _ _ fun a => ?_
    fin_cases a
    · show i.val = 0 + i.val; omega
    · show (98304 + 128 * n.val + ℓ.val) % 100000 = 98304 + 128 * n.val + ℓ.val; omega
  unfold packed
  rw [← hn]
  pointwise [tlq, lane4, lane]
  refine congrArg (_ + ·) ?_
  have hr := n.isLt
  have hl := ℓ.isLt
  rw [shl_two]
  apply BitVec.eq_of_toNat_eq
  simp only [IntOp.addi, BitVec.toNat_add, BitVec.toNat_ofNat]
  omega

theorem lastc_apply (i : Fin 8) (ℓ : Fin 128) :
    (lastc a1 (h1.unread x0) (ix2 i ℓ), lastq a2 (h2.unread x1) (ix2 i ℓ))
      = if 96 ≤ ℓ.val then item x0 x1 i (99872 + ℓ.val) else ((Ideal.ofBits FTy.f32 0xFF800000#32 : EReal), 1073741824#32) := by
  have hc : View.readAt (Elt Ideal) a1.view
      (Rect.unit (s := S8x100000) ![0, 99872] S8x128.size inb_S8x100000_S8x128_0_99872).toLoadRect (h1.unread x0) (ix2 i ℓ)
        = rowX x0 i (99872 + ℓ.val) := by
    rw [View.readAt_eq_ld, Memref.IsWhole.read_unread]
    refine View.ld_unit_apply_of x0 _ _ _ _ _ fun a => ?_
    fin_cases a
    · show i.val = 0 + i.val; omega
    · show (99872 + ℓ.val) % 100000 = 99872 + ℓ.val; omega
  have hn : View.readAt (Elt Ideal) a2.view
      (Rect.unit (s := S8x100000) ![0, 99872] S8x128.size inb_S8x100000_S8x128_0_99872).toLoadRect (h2.unread x1) (ix2 i ℓ)
        = rowC x1 i (99872 + ℓ.val) := by
    rw [View.readAt_eq_ld, Memref.IsWhole.read_unread]
    refine View.ld_unit_apply_of x1 _ _ _ _ _ fun a => ?_
    fin_cases a
    · show i.val = 0 + i.val; omega
    · show (99872 + ℓ.val) % 100000 = 99872 + ℓ.val; omega
  unfold item packed
  rw [← hc, ← hn]
  have hl := ℓ.isLt
  have hk : keep (ix2 i ℓ) = BitVec.ofBool (decide (96 ≤ ℓ.val)) := by
    pointwise [keep, lane]
    exact (by decide +kernel : ∀ ℓ : Fin 128,
      IntOp.cmpi .sge (BitVec.ofNat 32 ℓ.val) 96#32 = BitVec.ofBool (decide (96 ≤ ℓ.val))) ℓ
  have ec : ∀ u : FV Ideal, select keep u negV (ix2 i ℓ) = if 96 ≤ ℓ.val then u (ix2 i ℓ) else (Ideal.ofBits FTy.f32 0xFF800000#32 : EReal) := fun u => by
    show Scalar.select (keep (ix2 i ℓ)) _ _ = _
    rw [hk, Scalar.select_decide]; rfl
  have eq : ∀ u : NV, select keep u bigV (ix2 i ℓ) = if 96 ≤ ℓ.val then u (ix2 i ℓ) else 1073741824#32 := fun u => by
    show Scalar.select (keep (ix2 i ℓ)) _ _ = _
    rw [hk, Scalar.select_decide]; rfl
  unfold lastc lastq
  rw [ec, eq]
  split_ifs with h
  · refine Prod.ext rfl ?_
    pointwise [lane4, lane]
    refine congrArg (_ + ·) ?_
    rw [shl_two]
    apply BitVec.eq_of_toNat_eq
    simp only [IntOp.addi, BitVec.toNat_add, BitVec.toNat_ofNat]
    omega
  · rfl

/-- The same done to each stream. -/
theorem lst_each (f : Nat → Lst Ideal → Lst Ideal) (s : St Ideal) (j : Fin 4) :
    (![f 0 s.1.1, f 1 s.1.2.1, f 2 s.1.2.2.1, f 3 s.1.2.2.2] : Fin 4 → Lst Ideal) j = f j.val (lst s j) := by
  fin_cases j <;> rfl

theorem acc_each (f : Nat → FV Ideal → FV Ideal) (s : St Ideal) (j : Fin 4) :
    (![f 0 s.2.1, f 1 s.2.2.1, f 2 s.2.2.2.1, f 3 s.2.2.2.2] : Fin 4 → FV Ideal) j = f j.val (acc s j) := by
  fin_cases j <;> rfl

/-- One trip, stream by stream. -/
theorem lst_trip (k : Fin k0_t1_loop.trips) (s : St Ideal) (j : Fin 4) :
    lst (trip lane4 a1 (h1.unread x0) a2 (h2.unread x1) k s) j
      = insN (fun u => ldc a1 (h1.unread x0) k (slot j u))
          (fun u => pack lane4 (col k (slot j u)) (ldn a2 (h2.unread x1) k (slot j u))) (lst s j) 16 :=
  lst_each (fun j l => insN (fun u => ldc a1 (h1.unread x0) k (slot j u))
    (fun u => pack lane4 (col k (slot j u)) (ldn a2 (h2.unread x1) k (slot j u))) l 16) s j

theorem acc_trip (k : Fin k0_t1_loop.trips) (s : St Ideal) (j : Fin 4) :
    acc (trip lane4 a1 (h1.unread x0) a2 (h2.unread x1) k s) j
      = addN (fun u => ldc a1 (h1.unread x0) k (slot j u)) (acc s j) 16 :=
  acc_each (fun j a => addN (fun u => ldc a1 (h1.unread x0) k (slot j u)) a 16) s j

/-- What is so of a state of which `N` slices of each stream have been seen, at one lane. -/
def Seen (τ : EReal) (i : Fin 8) (ℓ : Fin 128) (j : Fin 4) (N : Nat) (l : Lst Ideal) (a : FV Ideal) : Prop :=
  Keeps τ (ms l (ix2 i ℓ)) ((Multiset.range N).map fun n => item x0 x1 i (512 * n + 128 * j.val + ℓ.val))
    ∧ (a (ix2 i ℓ) : EReal) = ∑ n ∈ Finset.range N, term x0 i (512 * n + 128 * j.val + ℓ.val)

/-- Further slices seen, the first of them the `N`-th. -/
theorem Seen.more {τ : EReal} {i : Fin 8} {ℓ : Fin 128} {j : Fin 4} {N : Nat} {l : Lst Ideal} {a : FV Ideal}
    (h : Seen x0 x1 τ i ℓ j N l a) (c : Nat → FV Ideal) (q : Nat → NV) (m : Nat)
    (hc : ∀ u < m, c u (ix2 i ℓ) = rowX x0 i (512 * (N + u) + 128 * j.val + ℓ.val))
    (hq : ∀ u < m, q u (ix2 i ℓ) = packed x1 i (512 * (N + u) + 128 * j.val + ℓ.val)) :
    Seen x0 x1 τ i ℓ j (N + m) (insN c q l m) (addN c a m) := by
  constructor
  · have := keeps_insN h.1 c q m
    rw [Multiset.range_add, Multiset.map_add, Multiset.map_map]
    refine (congrArg (Keeps τ _) (congrArg (_ + ·) (Multiset.map_congr rfl fun u hu => ?_))).mp this
    rw [hc u (Multiset.mem_range.mp hu), hq u (Multiset.mem_range.mp hu)]; rfl
  · rw [addN_apply, h.2, Finset.sum_range_add]
    refine congrArg (_ + ·) (Finset.sum_congr rfl fun u hu => ?_)
    rw [hc u (Finset.mem_range.mp hu)]; rfl

/-- After a trip. -/
theorem Seen.trip {τ : EReal} {i : Fin 8} {ℓ : Fin 128} {j : Fin 4} (k : Fin k0_t1_loop.trips) {s : St Ideal}
    (h : Seen x0 x1 τ i ℓ j (16 * k.val) (lst s j) (acc s j)) :
    Seen x0 x1 τ i ℓ j (16 * (k.val + 1)) (lst (Vecs.trip lane4 a1 (h1.unread x0) a2 (h2.unread x1) k s) j)
      (acc (Vecs.trip lane4 a1 (h1.unread x0) a2 (h2.unread x1) k s) j) := by
  rw [lst_trip, acc_trip]
  have e : ∀ u < 16, 8192 * k.val + 128 * (slot j.val u).val + ℓ.val = 512 * (16 * k.val + u) + 128 * j.val + ℓ.val := by
    intro u hu
    have : (slot j.val u).val = 4 * u + j.val := Nat.mod_eq_of_lt (by omega)
    omega
  exact h.more x0 x1 _ _ 16 (fun u hu => by rw [ldc_apply, e u hu]) (fun u hu => by rw [ldq_apply, e u hu])

/-- A lane's share, kept and summed. -/
def Done (τ : EReal) (i : Fin 8) (ℓ : Fin 128) (j : Fin 4) (l : Lst Ideal) (a : FV Ideal) : Prop :=
  Keeps τ (ms l (ix2 i ℓ)) ((share j.val ℓ.val).val.map (item x0 x1 i))
    ∧ (a (ix2 i ℓ) : EReal) = ∑ n ∈ share j.val ℓ.val, term x0 i n

theorem Seen.done {τ : EReal} {i : Fin 8} {ℓ : Fin 128} {j : Fin 4} {l : Lst Ideal} {a : FV Ideal}
    (h : Seen x0 x1 τ i ℓ j (slices j.val) l a) (hj : j.val ≠ 3) : Done x0 x1 τ i ℓ j l a := by
  have e := share_eq j.isLt ℓ.isLt
  rw [if_neg (fun h => hj h.1), add_zero] at e
  refine ⟨?_, ?_⟩
  · rw [e, Multiset.map_map]; exact h.1
  · rw [h.2]; show _ = ((share j.val ℓ.val).val.map _).sum
    rw [e, Multiset.map_map]; rfl

/-- The streams after the last slices. -/
theorem lst_tail (s : St Ideal) (j : Fin 4) (hj : j.val ≠ 3) :
    lst (tail a1 (h1.unread x0) a2 (h2.unread x1) s) j
      = insN (fun u => tlc a1 (h1.unread x0) (Fin.ofNat 13 (4 * u + j.val)))
          (fun u => tlq a2 (h2.unread x1) (Fin.ofNat 13 (4 * u + j.val))) (lst s j) (slices j.val - 192) := by
  match j, hj with
  | 0, _ => rfl
  | 1, _ => rfl
  | 2, _ => rfl
  | 3, h => exact absurd rfl h

theorem acc_tail (s : St Ideal) (j : Fin 4) (hj : j.val ≠ 3) :
    acc (tail a1 (h1.unread x0) a2 (h2.unread x1) s) j
      = addN (fun u => tlc a1 (h1.unread x0) (Fin.ofNat 13 (4 * u + j.val))) (acc s j) (slices j.val - 192) := by
  match j, hj with
  | 0, _ => rfl
  | 1, _ => rfl
  | 2, _ => rfl
  | 3, h => exact absurd rfl h

theorem lst_tail_three (s : St Ideal) :
    lst (tail a1 (h1.unread x0) a2 (h2.unread x1) s) 3
      = ins (insN (fun u => tlc a1 (h1.unread x0) (Fin.ofNat 13 (4 * u + (3 : Fin 4).val)))
          (fun u => tlq a2 (h2.unread x1) (Fin.ofNat 13 (4 * u + (3 : Fin 4).val))) (lst s 3) (slices (3 : Fin 4).val - 192))
          (lastc a1 (h1.unread x0)) (lastq a2 (h2.unread x1)) := rfl

theorem acc_tail_three (s : St Ideal) :
    acc (tail a1 (h1.unread x0) a2 (h2.unread x1) s) 3
      = addExp (addN (fun u => tlc a1 (h1.unread x0) (Fin.ofNat 13 (4 * u + (3 : Fin 4).val))) (acc s 3)
          (slices (3 : Fin 4).val - 192)) (lastc a1 (h1.unread x0)) := rfl

/-- The last slices of any stream. -/
theorem Seen.last {τ : EReal} {i : Fin 8} {ℓ : Fin 128} {j : Fin 4} {l : Lst Ideal} {a : FV Ideal}
    (h : Seen x0 x1 τ i ℓ j 192 l a) :
    Seen x0 x1 τ i ℓ j (slices j.val)
      (insN (fun u => tlc a1 (h1.unread x0) (Fin.ofNat 13 (4 * u + j.val)))
          (fun u => tlq a2 (h2.unread x1) (Fin.ofNat 13 (4 * u + j.val))) l (slices j.val - 192))
      (addN (fun u => tlc a1 (h1.unread x0) (Fin.ofNat 13 (4 * u + j.val))) a (slices j.val - 192)) := by
  have hs : slices j.val = 192 + (slices j.val - 192) := by unfold slices; split_ifs <;> rfl
  have e : ∀ u < slices j.val - 192, 98304 + 128 * (Fin.ofNat 13 (4 * u + j.val)).val + ℓ.val
      = 512 * (192 + u) + 128 * j.val + ℓ.val := by
    intro u hu
    have : (Fin.ofNat 13 (4 * u + j.val)).val = 4 * u + j.val := Nat.mod_eq_of_lt (by
      unfold slices at hu; split_ifs at hu <;> omega)
    omega
  have := h.more x0 x1 (fun u => tlc a1 (h1.unread x0) (Fin.ofNat 13 (4 * u + j.val)))
    (fun u => tlq a2 (h2.unread x1) (Fin.ofNat 13 (4 * u + j.val))) (slices j.val - 192)
    (fun u hu => by rw [tlc_apply, e u hu]) (fun u hu => by rw [tlq_apply, e u hu])
  rwa [← hs] at this

theorem negInf : (Ideal.ofBits FTy.f32 0xFF800000#32 : EReal) = ⊥ := by simp [Ideal.ofBits, Ideal.ieee]

theorem twelve : (Ideal.ofBits FTy.f32 0x41400000#32 : EReal) = ((12 : ℝ) : EReal) := by
  simp [Ideal.ofBits, Ideal.ieee]
  rw [← EReal.coe_mul]
  norm_num

/-- The masked slice, which the last stream sees beside. -/
theorem Seen.masked {τ : EReal} (hτ : ⊥ < τ) {i : Fin 8} {ℓ : Fin 128} {l : Lst Ideal} {a : FV Ideal}
    (h : Seen x0 x1 τ i ℓ 3 195 l a) :
    Done x0 x1 τ i ℓ 3 (ins l (lastc a1 (h1.unread x0)) (lastq a2 (h2.unread x1))) (addExp a (lastc a1 (h1.unread x0))) := by
  have e : (share 3 ℓ.val).val = _ := share_eq (by omega) ℓ.isLt
  have hl := lastc_apply a1 h1 a2 h2 x0 x1 i ℓ
  have hk := keeps_ins h.1 (lastc a1 (h1.unread x0)) (lastq a2 (h2.unread x1))
  have ha : (addExp a (lastc a1 (h1.unread x0)) (ix2 i ℓ) : EReal)
      = a (ix2 i ℓ) + Ideal.exp (lastc a1 (h1.unread x0) (ix2 i ℓ) - Ideal.ofBits FTy.f32 0x41400000#32) := by
    pointwise [addExp]
  have hs : ∑ n ∈ share 3 ℓ.val, term x0 i n = ((share 3 ℓ.val).val.map (term x0 i)).sum := rfl
  refine ⟨?_, ?_⟩
  · show Keeps τ _ ((share 3 ℓ.val).val.map _)
    rw [e, Multiset.map_add, Multiset.map_map]
    rw [hl] at hk
    by_cases hc : 96 ≤ ℓ.val
    · rw [if_pos hc] at hk
      rw [if_pos ⟨rfl, hc⟩, Multiset.map_singleton]
      exact hk
    · rw [if_neg hc] at hk
      rw [if_neg (fun h => hc h.2), Multiset.map_zero, add_zero]
      have h0 : above τ {((Ideal.ofBits FTy.f32 0xFF800000#32 : EReal), 1073741824#32)} = 0 :=
        Multiset.filter_eq_nil.mpr fun e he => by
          rw [Multiset.mem_singleton.mp he, negInf]; exact not_le.mpr hτ
      unfold Keeps at hk ⊢
      rw [above_add, h0, add_zero] at hk
      exact hk
  · show _ = ∑ n ∈ share 3 ℓ.val, term x0 i n
    rw [hs, e, Multiset.map_add, Multiset.sum_add, Multiset.map_map, ha, h.2]
    refine congrArg₂ (· + ·) rfl ?_
    have h1' := congrArg Prod.fst hl
    by_cases hc : 96 ≤ ℓ.val
    · rw [if_pos hc] at h1'
      rw [if_pos ⟨rfl, hc⟩, Multiset.map_singleton, Multiset.sum_singleton]
      exact congrArg (fun v : EReal => Ideal.exp (v - _)) h1'
    · rw [if_neg hc] at h1'
      rw [if_neg (fun h => hc h.2), Multiset.map_zero, Multiset.sum_zero]
      refine (congrArg (fun v : EReal => Ideal.exp (v - _)) h1').trans ?_
      show Ideal.exp ((Ideal.ofBits FTy.f32 0xFF800000#32 : EReal) - _) = 0
      rw [negInf, twelve]
      rfl

end

section
variable (c : Dev nD) (i : grid0.Coords) (arg1 : Memref sig .tc .vmem S8x100000 .f32) (harg1 : arg1.IsWhole) (arg2 : Memref sig .tc .vmem S8x100000 .i32) (harg2 : arg2.IsWhole) (arg3 : Memref sig .tc .vmem S8x1 .f32) (harg3 : arg3.IsWhole) (arg4 : Memref sig .tc .vmem S8x1 .f32) (harg4 : arg4.IsWhole) (arg5 : Memref sig .tc .vmem S8x1 .i32) (harg5 : arg5.IsWhole) (arg6 : Memref sig .tc .vmem S8x1 .f32) (harg6 : arg6.IsWhole) (arg7 : Memref sig .tc .vmem S8x100000 .i32) (harg7 : arg7.IsWhole)
  (x0 : Vec Ideal S8x100000 .f32) (x1 : Vec Ideal S8x100000 .i32)

theorem toSt_init (τ : EReal) (hτ : ⊥ < τ) (r : Fin 8) (ℓ : Fin 128) (j : Fin 4) :
    Seen x0 x1 τ r ℓ j 0 (lst (toSt (init : Flat Ideal)) j) (acc (toSt (init : Flat Ideal)) j) := by
  have hl : lst (toSt (init : Flat Ideal)) j = (negV, negV, negV, negV, negV, bigV, bigV, bigV, bigV, bigV) := by
    fin_cases j <;> rfl
  have ha : acc (toSt (init : Flat Ideal)) j = zeroV := by fin_cases j <;> rfl
  rw [hl, ha]
  refine ⟨fun _ => ?_, ?_⟩
  · have hm : above τ (ms ((negV, negV, negV, negV, negV, bigV, bigV, bigV, bigV, bigV) : Lst Ideal) (ix2 r ℓ)) = 0 := by
      refine Multiset.filter_eq_nil.mpr fun e he => ?_
      simp only [ms, Multiset.mem_add, Multiset.mem_singleton, or_self] at he
      rw [he]
      show ¬ τ ≤ (Ideal.ofBits FTy.f32 0xFF800000#32 : EReal)
      rw [negInf]; exact not_le.mpr hτ
    rw [hm]; rfl
  · rw [Finset.sum_range_zero]
    exact Ideal.ofBits_zero_f32

/-- What the loop carries, stream by stream and lane by lane. -/
theorem carried_seen (τ : EReal) (hτ : ⊥ < τ) (r : Fin 8) (ℓ : Fin 128) (j : Fin 4) (k : Nat) (hk : k ≤ 12) :
    Seen x0 x1 τ r ℓ j (16 * k) (lst (toSt (carried c i arg1 harg1 arg2 harg2 arg3 harg3 arg4 harg4 arg5 harg5 arg6 harg6 arg7 harg7 x0 x1 k)) j)
      (acc (toSt (carried c i arg1 harg1 arg2 harg2 arg3 harg3 arg4 harg4 arg5 harg5 arg6 harg6 arg7 harg7 x0 x1 k)) j) := by
  induction k with
  | zero => exact toSt_init x0 x1 τ hτ r ℓ j
  | succ k ih =>
    have hs : toSt (carried c i arg1 harg1 arg2 harg2 arg3 harg3 arg4 harg4 arg5 harg5 arg6 harg6 arg7 harg7 x0 x1 (k + 1))
        = trip lane4 arg1 (harg1.unread x0) arg2 (harg2.unread x1) (⟨k, hk⟩ : Fin k0_t1_loop.trips)
            (toSt (carried c i arg1 harg1 arg2 harg2 arg3 harg3 arg4 harg4 arg5 harg5 arg6 harg6 arg7 harg7 x0 x1 k)) := by
      unfold carried
      rw [st_k0_t1_succ _ _ _ _ _ _ _ _ _ _ _ _ _ _ _ _ _ _ _ _ _ _ _ _ _ _ _ _ _ _ _ _ _ _ _ _ _ _ _ _ _ _ _ _ _ _ _ _ _ _ (⟨k, hk⟩ : Fin k0_t1_loop.trips)]
      exact tripR_eq ..
    rw [hs]
    exact (ih (by omega)).trip arg1 harg1 arg2 harg2 x0 x1 ⟨k, hk⟩

/-- When every slice has been seen, each lane has its share. -/
theorem fin_done (τ : EReal) (hτ : ⊥ < τ) (r : Fin 8) (ℓ : Fin 128) (j : Fin 4) :
    Done x0 x1 τ r ℓ j (lst (fin c i arg1 harg1 arg2 harg2 arg3 harg3 arg4 harg4 arg5 harg5 arg6 harg6 arg7 harg7 x0 x1) j) (acc (fin c i arg1 harg1 arg2 harg2 arg3 harg3 arg4 harg4 arg5 harg5 arg6 harg6 arg7 harg7 x0 x1) j) := by
  have h := carried_seen c i arg1 harg1 arg2 harg2 arg3 harg3 arg4 harg4 arg5 harg5 arg6 harg6 arg7 harg7 x0 x1 τ hτ r ℓ j 12 le_rfl
  unfold fin
  by_cases hj : j.val = 3
  · obtain rfl : j = 3 := Fin.ext hj
    rw [lst_tail_three arg1 harg1 arg2 harg2 x0 x1, acc_tail_three arg1 harg1 arg2 harg2 x0 x1]
    exact (Seen.last arg1 harg1 arg2 harg2 x0 x1 h).masked arg1 harg1 arg2 harg2 x0 x1 hτ
  · rw [lst_tail arg1 harg1 arg2 harg2 x0 x1 _ j hj, acc_tail arg1 harg1 arg2 harg2 x0 x1 _ j hj]
    exact (Seen.last arg1 harg1 arg2 harg2 x0 x1 h).done x0 x1 hj

end

end Cert.KernelIdeal.Vecs

end
-- ==== Proof.Order.lean ====
/- The order in which a stable sort by a key, greatest first, lists the positions: by key, and among equal keys by
   position; and a host top-k read at an index. -/
module

public import Idealize.ShloMosaic.Lib.SortFacts
public import Idealize.ShloMosaic.Lib.Pointwise
public import Idealize.ShloMosaic.PureOps.Ideal.Laws

@[expose] public section

noncomputable section

namespace Cert.Order

open Idealize.ShloMosaic

/-- Over a list in increasing order, two relations that agree on every pair given greater position first sort alike. -/
theorem stableSort_eq {n : Nat} (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    show insertBefore R a (stableSort R l) = insertBefore B a (stableSort B l)
    rw [ih hl.2]
    exact insertBefore_congr R B a _ fun b hb => h a b (hl.1 b ((perm_stableSort B l).mem_iff.mp hb))

/-- The position listed at `k` by the stable sort, greatest key first. -/
def rank {n : Nat} (key : Fin n → EReal) (k : Fin n) : Fin n := sortedFrom (fun a b => decide (key b < key a)) k

theorem rank_injective {n : Nat} (key : Fin n → EReal) : Function.Injective (rank key) := sortedFrom_injective _

theorem rank_surjective {n : Nat} (key : Fin n → EReal) : Function.Surjective (rank key) := sortedFrom_surjective _

/-- Keys in the same order list the positions alike. -/
theorem rank_congr {n : Nat} (key key' : Fin n → EReal) (h : ∀ a b, key a < key b ↔ key' a < key' b) : rank key = rank key' := by
  unfold rank
  have : (fun a b => decide (key b < key a)) = fun a b => decide (key' b < key' a) := by
    funext a b
    simp only [h]
  rw [this]

/-- An earlier place holds a greater key, or an equal key at a lower position. -/
theorem rank_lt {n : Nat} (key : Fin n → EReal) (i j : Fin n) (hij : i < j) :
    key (rank key j) < key (rank key i) ∨ (key (rank key j) = key (rank key i) ∧ rank key i < rank key j) := by
  let B : Fin n → Fin n → Bool := fun a b => decide (key b < key a ∨ (key b = key a ∧ a < b))
  have hsort : rank key = sortedFrom B := by
    funext k
    have : sortPositions n (fun a b => decide (key b < key a)) = sortPositions n B := by
      refine stableSort_eq _ _ (fun a b hab => ?_) _ (List.pairwise_lt_finRange n)
      have : ¬ (b < a) := not_lt.mpr hab.le
      simp only [B, this, and_false, or_false]
    simp only [rank, sortedFrom, List.get_eq_getElem, this, Fin.val_cast]
  have hno := sortedFrom_noInversion B B
    (fun a b h => by
      simp only [B, decide_eq_true_eq, decide_eq_false_iff_not] at h ⊢
      rintro (h' | ⟨h', h''⟩)
      · rcases h with h | ⟨h, _⟩
        · exact lt_asymm h h'
        · exact absurd h (ne_of_gt h')
      · rcases h with h | ⟨h, hl⟩
        · exact absurd h' (ne_of_gt h)
        · exact lt_asymm hl h'')
    (fun _ _ h => h)
    (fun a b c h₁ h₂ => by
      simp only [B, decide_eq_false_iff_not, not_or, not_and, not_lt] at h₁ h₂ ⊢
      refine ⟨h₁.1.trans h₂.1, fun h => ?_⟩
      have hab : key b = key a := le_antisymm (h ▸ h₂.1) h₁.1
      have hbc : key c = key b := h.trans hab.symm
      exact (h₂.2 hbc).trans (h₁.2 hab)) i j hij
  rw [hsort]
  simp only [B, decide_eq_false_iff_not, not_or, not_and, not_lt] at hno
  rcases lt_or_eq_of_le hno.1 with h | h
  · exact .inl h
  · refine .inr ⟨h, lt_of_le_of_ne (hno.2 h.symm) fun he => ?_⟩
    exact absurd (sortedFrom_injective B he) (ne_of_lt hij)

/-- An earlier place holds no smaller key. -/
theorem rank_le {n : Nat} (key : Fin n → EReal) (i j : Fin n) (hij : i ≤ j) : key (rank key j) ≤ key (rank key i) := by
  rcases lt_or_eq_of_le hij with h | rfl
  · rcases rank_lt key i j h with h | h
    · exact h.le
    · exact h.1.le
  · exact le_rfl

theorem along_ix2 {m n : Nat} (i : Fin m) (j k : Fin n) :
    Shape.Idx.along (ix2 i j) (1 : Fin 2) k = (ix2 i k : (⟨2, ![m, n]⟩ : Shape).Idx) := by
  funext a
  match a with
  | ⟨0, _⟩ => rfl
  | ⟨1, _⟩ => rfl

/-- The place a sort of each row of two arrays takes its `k`-th pair from. -/
def from2 {m n : Nat} {α β : Type} (cmp : α × β → α × β → BitVec 1) (x : (⟨2, ![m, n]⟩ : Shape).Idx → α)
    (y : (⟨2, ![m, n]⟩ : Shape).Idx → β) (i : Fin m) (k : Fin n) : (⟨2, ![m, n]⟩ : Shape).Idx :=
  ix2 i (sortedFrom (fun a b : Fin n => cmp (x (ix2 i a), y (ix2 i a)) (x (ix2 i b), y (ix2 i b)) == 1#1) k)

theorem along_sorted {m n : Nat} {α β : Type} (cmp : α × β → α × β → BitVec 1) (x : (⟨2, ![m, n]⟩ : Shape).Idx → α)
    (y : (⟨2, ![m, n]⟩ : Shape).Idx → β) (i : Fin m) (k : Fin n) (f : Fin n → Fin n → Bool)
    (hf : f = fun a b : Fin n => cmp (x (Shape.Idx.along (ix2 i k) (1 : Fin 2) a), y (Shape.Idx.along (ix2 i k) (1 : Fin 2) a))
      (x (Shape.Idx.along (ix2 i k) (1 : Fin 2) b), y (Shape.Idx.along (ix2 i k) (1 : Fin 2) b)) == 1#1) :
    Shape.Idx.along (ix2 i k) (1 : Fin 2) (sortedFrom f k) = from2 cmp x y i k := by
  refine (along_ix2 i k _).trans (congrArg (fun g => ix2 i (sortedFrom g k)) (hf.trans (funext fun a => funext fun b => ?_)))
  exact congrArg₂ (fun p q => cmp (x p, y p) (x q, y q) == 1#1) (along_ix2 i k a) (along_ix2 i k b)

theorem sort2_fst {m n : Nat} {α β : Type} (cmp : α × β → α × β → BitVec 1) (x : (⟨2, ![m, n]⟩ : Shape).Idx → α)
    (y : (⟨2, ![m, n]⟩ : Shape).Idx → β) (i : Fin m) (k : Fin n) :
    (Host.sort2 (⟨2, ![m, n]⟩ : Shape) 1 cmp x y).1 (ix2 i k) = x (from2 cmp x y i k) :=
  congrArg x (along_sorted cmp x y i k _ rfl)

theorem sort2_snd {m n : Nat} {α β : Type} (cmp : α × β → α × β → BitVec 1) (x : (⟨2, ![m, n]⟩ : Shape).Idx → α)
    (y : (⟨2, ![m, n]⟩ : Shape).Idx → β) (i : Fin m) (k : Fin n) :
    (Host.sort2 (⟨2, ![m, n]⟩ : Shape) 1 cmp x y).2 (ix2 i k) = y (from2 cmp x y i k) :=
  congrArg y (along_sorted cmp x y i k _ rfl)

/-- By the first array's values, greatest first, it is the place of that rank. -/
theorem from2_gt {m n : Nat} {β : Type} (x : FVec Ideal (⟨2, ![m, n]⟩ : Shape) .f32) (y : (⟨2, ![m, n]⟩ : Shape).Idx → β)
    (i : Fin m) (k : Fin n) :
    from2 (fun l r => FloatOps.cmpfTotal (F := Ideal) (φ := .f32) .gt l.1 r.1) x y i k = ix2 i (rank (fun k => x (ix2 i k)) k) := by
  unfold from2 rank
  congr 2
  funext a b
  show (BitVec.ofBool (decide (x (ix2 i b) < x (ix2 i a))) == 1#1) = _
  cases decide (x (ix2 i b) < x (ix2 i a)) <;> rfl

theorem slice_ix2 {m n t : Nat} (h : (⟨2, ![m, n]⟩ : Shape).Slices (fun _ => 0) (⟨2, ![m, t]⟩ : Shape)) (i : Fin m) (r : Fin t)
    (hr : r.val < n) {α : Type} (x : (⟨2, ![m, n]⟩ : Shape).Idx → α) :
    extractStridedSlice (⟨2, ![m, t]⟩ : Shape) (fun _ => 0) x h (ix2 i r) = x (ix2 i ⟨r.val, hr⟩) := by
  unfold extractStridedSlice
  congr 1
  funext a
  apply Fin.ext
  match a with
  | ⟨0, _⟩ => exact Nat.zero_add _
  | ⟨1, _⟩ => exact Nat.zero_add _

/-- Every column's number, as a word. -/
def cols (m n : Nat) : IVec (⟨2, ![m, n]⟩ : Shape) 32 := fun j => BitVec.ofNat 32 (j 1).val

/-- The greatest `t` of each row, read at a place: the value there. -/
theorem topK_fst {m n t : Nat} (x : FVec Ideal (⟨2, ![m, n]⟩ : Shape) .f32) (h) (i : Fin m) (r : Fin t) (hr : r.val < n) :
    (Host.topK (⟨2, ![m, t]⟩ : Shape) 1 (FloatOps.cmpfTotal .gt) x h).1 (ix2 i r)
      = x (ix2 i (rank (fun k => x (ix2 i k)) ⟨r.val, hr⟩)) :=
  (slice_ix2 h i r hr (Host.sort2 (⟨2, ![m, n]⟩ : Shape) 1
      (fun l r => FloatOps.cmpfTotal (F := Ideal) (φ := .f32) .gt l.1 r.1) x (cols m n)).1).trans
    ((sort2_fst (fun l r => FloatOps.cmpfTotal (F := Ideal) (φ := .f32) .gt l.1 r.1) x (cols m n) i ⟨r.val, hr⟩).trans
      (congrArg x (from2_gt x (cols m n) i ⟨r.val, hr⟩)))

/-- The greatest `t` of each row, read at a place: the position there. -/
theorem topK_snd {m n t : Nat} (x : FVec Ideal (⟨2, ![m, n]⟩ : Shape) .f32) (h) (i : Fin m) (r : Fin t) (hr : r.val < n) :
    (Host.topK (⟨2, ![m, t]⟩ : Shape) 1 (FloatOps.cmpfTotal .gt) x h).2 (ix2 i r)
      = BitVec.ofNat 32 (rank (fun k => x (ix2 i k)) ⟨r.val, hr⟩).val :=
  (slice_ix2 h i r hr (Host.sort2 (⟨2, ![m, n]⟩ : Shape) 1
      (fun l r => FloatOps.cmpfTotal (F := Ideal) (φ := .f32) .gt l.1 r.1) x (cols m n)).2).trans
    ((sort2_snd (fun l r => FloatOps.cmpfTotal (F := Ideal) (φ := .f32) .gt l.1 r.1) x (cols m n) i ⟨r.val, hr⟩).trans
      (congrArg (cols m n) (from2_gt x (cols m n) i ⟨r.val, hr⟩)))

end Cert.Order

end
-- ==== Proof.Rounds.lean ====
/- The five rounds that take the greatest value of a row, each with its packed word, out of what the lanes keep. -/
module

public import proofs.«01_k».proof.Proof.Block
public import proofs.«01_k».proof.Proof.Order

@[expose] public section

set_option maxRecDepth 16384

noncomputable section

namespace Cert.KernelIdeal.Vecs

open Idealize.ShloMosaic
open Cert.KernelIdeal Cert.KernelIdeal.Gen

/-! ## Where the concatenated vectors hold what the lanes keep -/

/-- Pieces of 128 lanes side by side, read at a place: the piece and the lane. -/
theorem catAt {α : Type} (j : S8x2560.Idx) (i : Fin 8) (hj : (j 0).val = i.val) : ∀ (vs : List (S8x128.Idx → α))
    (hs : ∀ s ∈ (vs.map fun v => (⟨S8x128, v⟩ : (s : Shape) × (s.Idx → α))).map (·.1), s.FitsOff S8x2560 1) (q : Nat)
    (hq : q < vs.length) (ℓ : Fin 128) (c : Nat) (hc) (e : c = 128 * q + ℓ.val),
    concatenateAt S8x2560 1 j (vs.map fun v => (⟨S8x128, v⟩ : (s : Shape) × (s.Idx → α))) hs c hc = vs[q] (ix2 i ℓ)
  | [], _, q, hq, _, _, _, _ => absurd hq (Nat.not_lt_zero _)
  | [v], hs, q, hq, ℓ, c, hc, e => by
    obtain rfl : q = 0 := by simpa using hq
    refine (concatenateAt_singleton 1 j v hs c hc).trans (congrArg v (funext fun a => Fin.ext ?_))
    match a with
    | ⟨0, _⟩ => exact hj
    | ⟨1, _⟩ => show c = ℓ.val; omega
  | v :: w :: vs, hs, q, hq, ℓ, c, hc, e => by
    refine (concatenateAt_cons 1 j v ⟨S8x128, w⟩ (vs.map fun v => ⟨S8x128, v⟩) hs c hc).trans ?_
    have hz : S8x128.size (Fin.cast (hs S8x128 List.mem_cons_self).rank_eq.symm 1) = 128 := rfl
    cases q with
    | zero =>
      rw [dif_pos (by rw [hz]; omega)]
      refine congrArg v (funext fun a => Fin.ext ?_)
      match a with
      | ⟨0, _⟩ => exact hj
      | ⟨1, _⟩ => show c = ℓ.val; omega
    | succ q =>
      rw [dif_neg (by rw [hz]; omega)]
      exact catAt j i hj (w :: vs) _ q (by simpa using hq) ℓ _ _ (by rw [hz]; omega)

/-- The values of a list, by place. -/
def tv {F : FTy → Type} (l : Lst F) : Fin 5 → FV F := ![l.1, l.2.1, l.2.2.1, l.2.2.2.1, l.2.2.2.2.1]
/-- The packed words of a list, by place. -/
def pw {F : FTy → Type} (l : Lst F) : Fin 5 → NV :=
  ![l.2.2.2.2.2.1, l.2.2.2.2.2.2.1, l.2.2.2.2.2.2.2.1, l.2.2.2.2.2.2.2.2.1, l.2.2.2.2.2.2.2.2.2]

theorem mem_ms (l : Lst Ideal) (y : S8x128.Idx) (e : Item) : e ∈ ms l y ↔ ∃ r : Fin 5, e = (tv l r y, pw l r y) := by
  simp only [ms, Multiset.mem_add, Multiset.mem_singleton]
  constructor
  · rintro ((((h | h) | h) | h) | h)
    exacts [⟨0, h⟩, ⟨1, h⟩, ⟨2, h⟩, ⟨3, h⟩, ⟨4, h⟩]
  · rintro ⟨r, h⟩
    match r with
    | 0 => exact .inl (.inl (.inl (.inl h)))
    | 1 => exact .inl (.inl (.inl (.inr h)))
    | 2 => exact .inl (.inl (.inr h))
    | 3 => exact .inl (.inr h)
    | 4 => exact .inr h

theorem tAll_apply (s : St Ideal) (i : Fin 8) (j : Fin 4) (r : Fin 5) (ℓ : Fin 128) :
    tAll s (ix2 i ⟨128 * (5 * j.val + r.val) + ℓ.val, by omega⟩) = tv (lst s j) r (ix2 i ℓ) := by
  unfold tAll
  rw [concatenate_apply]
  refine (catAt _ i rfl [s.1.1.1, s.1.1.2.1, s.1.1.2.2.1, s.1.1.2.2.2.1, s.1.1.2.2.2.2.1,
    s.1.2.1.1, s.1.2.1.2.1, s.1.2.1.2.2.1, s.1.2.1.2.2.2.1, s.1.2.1.2.2.2.2.1,
    s.1.2.2.1.1, s.1.2.2.1.2.1, s.1.2.2.1.2.2.1, s.1.2.2.1.2.2.2.1, s.1.2.2.1.2.2.2.2.1,
    s.1.2.2.2.1, s.1.2.2.2.2.1, s.1.2.2.2.2.2.1, s.1.2.2.2.2.2.2.1, s.1.2.2.2.2.2.2.2.1] _ (5 * j.val + r.val)
    (by show _ < 20; omega) ℓ _ _ rfl).trans ?_
  match j, r with
  | 0, 0 | 0, 1 | 0, 2 | 0, 3 | 0, 4 | 1, 0 | 1, 1 | 1, 2 | 1, 3 | 1, 4 | 2, 0 | 2, 1 | 2, 2 | 2, 3 | 2, 4
  | 3, 0 | 3, 1 | 3, 2 | 3, 3 | 3, 4 => rfl

theorem pAll_apply (s : St Ideal) (i : Fin 8) (j : Fin 4) (r : Fin 5) (ℓ : Fin 128) :
    pAll s (ix2 i ⟨128 * (5 * j.val + r.val) + ℓ.val, by omega⟩) = pw (lst s j) r (ix2 i ℓ) := by
  unfold pAll
  rw [concatenate_apply]
  refine (catAt _ i rfl [s.1.1.2.2.2.2.2.1, s.1.1.2.2.2.2.2.2.1, s.1.1.2.2.2.2.2.2.2.1, s.1.1.2.2.2.2.2.2.2.2.1, s.1.1.2.2.2.2.2.2.2.2.2,
    s.1.2.1.2.2.2.2.2.1, s.1.2.1.2.2.2.2.2.2.1, s.1.2.1.2.2.2.2.2.2.2.1, s.1.2.1.2.2.2.2.2.2.2.2.1, s.1.2.1.2.2.2.2.2.2.2.2.2,
    s.1.2.2.1.2.2.2.2.2.1, s.1.2.2.1.2.2.2.2.2.2.1, s.1.2.2.1.2.2.2.2.2.2.2.1, s.1.2.2.1.2.2.2.2.2.2.2.2.1, s.1.2.2.1.2.2.2.2.2.2.2.2.2,
    s.1.2.2.2.2.2.2.2.2.1, s.1.2.2.2.2.2.2.2.2.2.1, s.1.2.2.2.2.2.2.2.2.2.2.1, s.1.2.2.2.2.2.2.2.2.2.2.2.1, s.1.2.2.2.2.2.2.2.2.2.2.2.2] _ (5 * j.val + r.val)
    (by show _ < 20; omega) ℓ _ _ rfl).trans ?_
  match j, r with
  | 0, 0 | 0, 1 | 0, 2 | 0, 3 | 0, 4 | 1, 0 | 1, 1 | 1, 2 | 1, 3 | 1, 4 | 2, 0 | 2, 1 | 2, 2 | 2, 3 | 2, 4
  | 3, 0 | 3, 1 | 3, 2 | 3, 3 | 3, 4 => rfl

/-- Every place holds a pair that some lane keeps. -/
theorem place_mem (s : St Ideal) (i : Fin 8) (n : Fin 2560) :
    ∃ (j : Fin 4) (ℓ : Fin 128), (tAll s (ix2 i n), pAll s (ix2 i n)) ∈ ms (lst s j) (ix2 i ℓ) := by
  have hn := n.isLt
  obtain ⟨j, r, ℓ, e⟩ : ∃ (j : Fin 4) (r : Fin 5) (ℓ : Fin 128), n.val = 128 * (5 * j.val + r.val) + ℓ.val :=
    ⟨⟨n.val / 640, by omega⟩, ⟨n.val / 128 % 5, by omega⟩, ⟨n.val % 128, by omega⟩, by simp only; omega⟩
  have e : n = ⟨128 * (5 * j.val + r.val) + ℓ.val, by omega⟩ := Fin.ext e
  refine ⟨j, ℓ, (mem_ms _ _ _).mpr ⟨r, ?_⟩⟩
  rw [e, tAll_apply, pAll_apply]

/-- Every pair a lane keeps is at some place. -/
theorem mem_place (s : St Ideal) (i : Fin 8) (j : Fin 4) (ℓ : Fin 128) (e : Item) (he : e ∈ ms (lst s j) (ix2 i ℓ)) :
    ∃ n : Fin 2560, (tAll s (ix2 i n) : EReal) = e.1 ∧ pAll s (ix2 i n) = e.2 := by
  obtain ⟨r, rfl⟩ := (mem_ms _ _ _).mp he
  exact ⟨_, tAll_apply s i j r ℓ, pAll_apply s i j r ℓ⟩

/-! ## The rounds -/

theorem toInt_minsi (x y : BitVec 32) : (IntOp.minsi x y).toInt = min x.toInt y.toInt := by
  unfold IntOp.minsi
  rw [BitVec.slt]
  split_ifs with h
  · rw [min_eq_left (by simp at h; omega)]
  · rw [min_eq_right (by simp at h; omega)]

/-- A signed least of words is a word that is no greater than any and is no less than `w`, if `w` is among them. -/
theorem fold_minsi {n : Nat} (b w : BitVec 32) (f : Fin n → BitVec 32) (hb : w.toInt ≤ b.toInt) (hf : ∀ x, w.toInt ≤ (f x).toInt)
    (hx : ∃ x, f x = w) : Finset.fold IntOp.minsi b f Finset.univ = w := by
  apply BitVec.eq_of_toInt_eq
  apply le_antisymm
  · obtain ⟨x, hx⟩ := hx
    refine (Finset.fold_op_rel_iff_or (r := fun a c : BitVec 32 => c.toInt ≤ a.toInt) ?_).mpr (.inr ⟨x, Finset.mem_univ _, hx ▸ le_rfl⟩)
    intro x y z
    rw [toInt_minsi, min_le_iff]
  · refine (Finset.fold_op_rel_iff_and (r := fun a c : BitVec 32 => a.toInt ≤ c.toInt) ?_).mpr ⟨hb, fun x _ => hf x⟩
    intro x y z
    rw [toInt_minsi, le_min_iff]

/-- Values `v`, greatest first, and words `w`, least first among equal values; places holding them and, beside these,
    only lesser values. -/
structure Ranked (t : Fin 2560 → EReal) (p : Fin 2560 → BitVec 32) (v : Nat → EReal) (w : Nat → BitVec 32) : Prop where
  bot : ∀ r < 5, ⊥ < v r
  order : ∀ r r', r < r' → r' < 5 → v r' < v r ∨ (v r' = v r ∧ (w r).toInt < (w r').toInt)
  small : ∀ r < 5, (w r).toInt < 1073741824
  there : ∀ r < 5, ∃ n, t n = v r ∧ p n = w r
  only : ∀ n, (∃ r < 5, t n = v r ∧ p n = w r) ∨ t n < v 4

/-- A place holding one of the first `r`. -/
def Taken (t : Fin 2560 → EReal) (p : Fin 2560 → BitVec 32) (v : Nat → EReal) (w : Nat → BitVec 32) (r : Nat) (n : Fin 2560) :
    Prop := ∃ r' < r, t n = v r' ∧ p n = w r'

namespace Ranked

variable {t : Fin 2560 → EReal} {p : Fin 2560 → BitVec 32} {v : Nat → EReal} {w : Nat → BitVec 32} (h : Ranked t p v w)
include h

theorem le {r r' : Nat} (hr : r ≤ r') (h' : r' < 5) : v r' ≤ v r := by
  rcases Nat.lt_or_eq_of_le hr with hlt | rfl
  · rcases h.order r r' hlt h' with h | h
    · exact h.le
    · exact h.1.le
  · exact le_rfl

theorem not_taken {r : Nat} (hr : r < 5) {n : Fin 2560} (ht : t n = v r) (hp : p n = w r) : ¬ Taken t p v w r n := by
  rintro ⟨r', h', e, e'⟩
  rcases h.order r' r h' hr with h | h
  · exact absurd (ht.symm.trans e) h.ne
  · have := hp.symm.trans e'
    rw [this] at h
    exact lt_irrefl _ h.2

variable {l : Fin 2560 → EReal} {r : Nat} (hr : r < 5) (hl1 : ∀ n, Taken t p v w r n → l n = ⊥)
  (hl2 : ∀ n, ¬ Taken t p v w r n → l n = t n)
include hr hl1 hl2

/-- The greatest value left is the `r`-th. -/
theorem max_eq : Finset.fold max ⊥ l Finset.univ = v r := by
  apply le_antisymm
  · refine Finset.fold_max_le _ |>.mpr ⟨bot_le, fun n _ => ?_⟩
    by_cases ht : Taken t p v w r n
    · rw [hl1 n ht]; exact bot_le
    · rw [hl2 n ht]
      rcases h.only n with ⟨r', h', e, e'⟩ | hlt
      · rw [e]
        exact h.le (Nat.le_of_not_lt fun hlt => ht ⟨r', hlt, e, e'⟩) h'
      · exact hlt.le.trans (h.le (by omega) (by omega))
  · obtain ⟨n, e, e'⟩ := h.there r hr
    refine Finset.le_fold_max _ |>.mpr (.inr ⟨n, Finset.mem_univ _, ?_⟩)
    rw [hl2 n (h.not_taken hr e e'), e]

/-- The least packed word where it is left is the `r`-th. -/
theorem min_eq : Finset.fold IntOp.minsi (2147483647#32) (fun n => if l n = v r then p n else 1073741824#32) Finset.univ = w r := by
  have hs := h.small r hr
  refine fold_minsi _ _ _ ?_ (fun n => ?_) ?_
  · exact hs.le.trans (by decide)
  · split_ifs with he
    · have ht : ¬ Taken t p v w r n := fun ht => by
        rw [hl1 n ht] at he; exact (h.bot r hr).ne he
      rw [hl2 n ht] at he
      rcases h.only n with ⟨r', h', e, e'⟩ | hlt
      · rw [e']
        have hle : r ≤ r' := Nat.le_of_not_lt fun hlt => ht ⟨r', hlt, e, e'⟩
        rcases Nat.lt_or_eq_of_le hle with hlt | rfl
        · rcases h.order r r' hlt h' with h2 | h2
          · exact absurd (e.symm.trans he) h2.ne
          · exact h2.2.le
        · exact le_rfl
      · rw [he] at hlt
        exact absurd (h.le (Nat.le_of_lt_succ hr) (by omega)) (not_le.mpr hlt)
    · exact hs.le.trans (by decide)
  · obtain ⟨n, e, e'⟩ := h.there r hr
    exact ⟨n, by rw [hl2 n (h.not_taken hr e e'), if_pos e, e']⟩

/-- And then one more is taken. -/
theorem next (n : Fin 2560) : (Taken t p v w (r + 1) n → (if l n = v r ∧ p n = w r then ⊥ else l n) = ⊥)
    ∧ (¬ Taken t p v w (r + 1) n → (if l n = v r ∧ p n = w r then ⊥ else l n) = t n) := by
  constructor
  · rintro ⟨r', h', e, e'⟩
    split_ifs with hc
    · rfl
    · by_cases ht : Taken t p v w r n
      · exact hl1 n ht
      · rcases Nat.lt_or_eq_of_le (Nat.le_of_lt_succ h') with hlt | rfl
        · exact absurd ⟨r', hlt, e, e'⟩ ht
        · exact absurd ⟨(hl2 n ht).trans e, e'⟩ hc
  · intro hn
    have ht : ¬ Taken t p v w r n := fun ⟨r', h', e⟩ => hn ⟨r', by omega, e⟩
    rw [hl2 n ht, if_neg]
    exact fun hc => hn ⟨r, by omega, hc⟩

end Ranked

theorem vmax_apply (t : FVec Ideal S8x2560 .f32) (i : Fin 8) :
    (vmax t (ix2 i 0) : EReal) = Finset.fold max ⊥ (fun n => (t (ix2 i n) : EReal)) Finset.univ := by
  rw [← negInf]
  pointwise [vmax]

theorem pmin_apply (t : FVec Ideal S8x2560 .f32) (p : IVec S8x2560 32) (v : FVec Ideal S8x1 .f32) (i : Fin 8) :
    pmin t p v (ix2 i 0) = Finset.fold IntOp.minsi (2147483647#32)
      (fun n => if (t (ix2 i n) : EReal) = v (ix2 i 0) then p (ix2 i n) else 1073741824#32) Finset.univ := by
  pointwise [pmin]

theorem kill_apply (t : FVec Ideal S8x2560 .f32) (p : IVec S8x2560 32) (v : FVec Ideal S8x1 .f32) (w : IVec S8x1 32) (i : Fin 8)
    (n : Fin 2560) : (kill t p v w (ix2 i n) : EReal)
      = if (t (ix2 i n) : EReal) = v (ix2 i 0) ∧ p (ix2 i n) = w (ix2 i 0) then ⊥ else t (ix2 i n) := by
  rw [← negInf]
  have e : kill t p v w (ix2 i n) = Scalar.select (IntOp.andi (BitVec.ofBool (decide ((t (ix2 i n) : EReal) = v (ix2 i 0))))
      (IntOp.cmpi .eq (p (ix2 i n)) (w (ix2 i 0)))) (Ideal.ofBits FTy.f32 4286578688#32) (t (ix2 i n)) := by
    pointwise [kill]
  rw [e]
  by_cases h1 : (t (ix2 i n) : EReal) = v (ix2 i 0)
  · by_cases h2 : p (ix2 i n) = w (ix2 i 0)
    · rw [if_pos ⟨h1, h2⟩]; simp [h1, h2, IntOp.andi, IntOp.cmpi, Scalar.select]
    · have h3 : (p (ix2 i n) == w (ix2 i 0)) = false := beq_eq_false_iff_ne.mpr h2
      rw [if_neg (fun h => h2 h.2)]; simp [h1, h3, IntOp.andi, IntOp.cmpi, Scalar.select]
  · rw [if_neg (fun h => h1 h.1)]; simp [h1, IntOp.andi, Scalar.select]

/-- What the rounds take. -/
theorem rounds (s : St Ideal) (i : Fin 8) (v : Nat → EReal) (w : Nat → BitVec 32)
    (h : Ranked (fun n => tAll s (ix2 i n)) (fun n => pAll s (ix2 i n)) v w) (r : Nat) :
    (r < 5 → (top s r (ix2 i 0) : EReal) = v r ∧ topP s r (ix2 i 0) = w r)
      ∧ (r ≤ 5 → ∀ n, (Taken (fun n => tAll s (ix2 i n)) (fun n => pAll s (ix2 i n)) v w r n → (left s r (ix2 i n) : EReal) = ⊥)
        ∧ (¬ Taken (fun n => tAll s (ix2 i n)) (fun n => pAll s (ix2 i n)) v w r n → (left s r (ix2 i n) : EReal) = tAll s (ix2 i n))) := by
  have key : ∀ r, (r ≤ 5 → ∀ n, (Taken (fun n => tAll s (ix2 i n)) (fun n => pAll s (ix2 i n)) v w r n → (left s r (ix2 i n) : EReal) = ⊥)
        ∧ (¬ Taken (fun n => tAll s (ix2 i n)) (fun n => pAll s (ix2 i n)) v w r n → (left s r (ix2 i n) : EReal) = tAll s (ix2 i n))) →
      r < 5 → (top s r (ix2 i 0) : EReal) = v r ∧ topP s r (ix2 i 0) = w r := fun r ih hr => by
    have e : (top s r (ix2 i 0) : EReal) = v r := by
      unfold top
      rw [vmax_apply]
      exact h.max_eq hr (fun n => (ih hr.le n).1) (fun n => (ih hr.le n).2)
    refine ⟨e, ?_⟩
    unfold topP
    rw [pmin_apply, e]
    exact h.min_eq hr (fun n => (ih hr.le n).1) (fun n => (ih hr.le n).2)
  have all : ∀ r, r ≤ 5 → ∀ n, (Taken (fun n => tAll s (ix2 i n)) (fun n => pAll s (ix2 i n)) v w r n → (left s r (ix2 i n) : EReal) = ⊥)
        ∧ (¬ Taken (fun n => tAll s (ix2 i n)) (fun n => pAll s (ix2 i n)) v w r n → (left s r (ix2 i n) : EReal) = tAll s (ix2 i n)) := by
    intro r
    induction r with
    | zero => exact fun _ n => ⟨fun ⟨r', h', _⟩ => absurd h' (Nat.not_lt_zero _), fun _ => rfl⟩
    | succ r ih =>
      intro hr n
      have hk := key r ih (by omega)
      have hn := h.next (r := r) (by omega) (fun n => (ih (by omega) n).1) (fun n => (ih (by omega) n).2) n
      have e : (left s (r + 1) (ix2 i n) : EReal) = _ := kill_apply (left s r) (pAll s) (top s r) (topP s r) i n
      rw [hk.1, hk.2] at e
      rw [e]
      exact hn
  exact ⟨key r (all r), all r⟩

/-! ## A row's five greatest -/

/-- The column of rank `r` in a row. -/
def sig (y : Fin 100000 → EReal) (r : Nat) : Fin 100000 := Order.rank y (Fin.ofNat 100000 r)

/-- What is asked of a row: its values are below infinity, the fifth greatest exceeds the sixth, its counts are below four. -/
structure Good (y : Fin 100000 → EReal) (k : Fin 100000 → BitVec 32) : Prop where
  top : ∀ n, y n ≠ ⊤
  apart : y (sig y 5) < y (sig y 4)
  small : ∀ n, (k n).toNat < 4

theorem ofNat_val (n : Fin 100000) : Fin.ofNat 100000 n.val = n := Fin.ext (Nat.mod_eq_of_lt n.isLt)

/-- The columns that reach the fifth greatest value are the five. -/
theorem reach {y : Fin 100000 → EReal} {k : Fin 100000 → BitVec 32} (h : Good y k) (n : Fin 100000) (hn : y (sig y 4) ≤ y n) :
    ∃ r < 5, n = sig y r := by
  obtain ⟨q, rfl⟩ := Order.rank_surjective y n
  by_cases hq : q.val < 5
  · exact ⟨q.val, hq, by unfold sig; rw [ofNat_val]⟩
  · exact absurd (hn.trans (Order.rank_le y (Fin.ofNat 100000 5) q (by show 5 % 100000 ≤ q.val; omega))) (not_le.mpr h.apart)

theorem sig_le (y : Fin 100000 → EReal) {r r' : Nat} (h : r ≤ r') (h' : r' < 100000) : y (sig y r') ≤ y (sig y r) :=
  Order.rank_le y _ _ (by show r % 100000 ≤ r' % 100000; rw [Nat.mod_eq_of_lt h', Nat.mod_eq_of_lt (by omega)]; exact h)

/-- The five greatest values exceed another one, so none is the least. -/
theorem Good.above {y : Fin 100000 → EReal} {k : Fin 100000 → BitVec 32} (h : Good y k) {r : Nat} (hr : r < 5) : ⊥ < y (sig y r) :=
  (bot_le.trans_lt h.apart).trans_le (sig_le y (Nat.le_of_lt_succ hr) (by omega))

variable {x0 : Vec Ideal S8x100000 .f32} {x1 : Vec Ideal S8x100000 .i32} {i : Fin 8}

theorem packed_toNat (h : Good (fun n => x0 (ix2 i n)) (fun n => x1 (ix2 i n))) (n : Fin 100000) :
    (packed x1 i n.val).toNat = 4 * n.val + (x1 (ix2 i n)).toNat := by
  have hs : (x1 (ix2 i n)).toNat < 4 := h.small n
  have hn := n.isLt
  unfold packed rowC
  rw [ofNat_val, BitVec.toNat_add, BitVec.toNat_ofNat]
  show ((x1 (ix2 i n)).toNat + _) % _ = _
  omega

theorem packed_toInt (h : Good (fun n => x0 (ix2 i n)) (fun n => x1 (ix2 i n))) (n : Fin 100000) :
    (packed x1 i n.val).toInt = 4 * n.val + (x1 (ix2 i n)).toNat := by
  have hs : (x1 (ix2 i n)).toNat < 4 := h.small n
  have hn := n.isLt
  have hp := packed_toNat h n
  rw [BitVec.toInt_eq_toNat_of_lt (by omega), hp]
  push_cast
  rfl

/-- Every column is in some lane's share. -/
theorem exists_share {n : Nat} (hn : n < 100000) : ∃ (j : Fin 4) (ℓ : Fin 128), n ∈ share j.val ℓ.val := by
  obtain ⟨p, hp⟩ : ∃ p, cell n = p := ⟨_, rfl⟩
  have hb : p.1 < 4 ∧ p.2 < 128 := by
    rw [← hp]; unfold cell; split_ifs <;> constructor <;> simp only <;> omega
  refine ⟨⟨p.1, hb.1⟩, ⟨p.2, hb.2⟩, ?_⟩
  unfold share
  rw [Finset.mem_filter, Finset.mem_range]
  exact ⟨hn, hp⟩

/-- What the lanes keep of a row, its five greatest are. -/
theorem ranked {s : St Ideal} (h : Good (fun n => x0 (ix2 i n)) (fun n => x1 (ix2 i n)))
    (hs : ∀ (ℓ : Fin 128) (j : Fin 4), Keeps ((x0 (ix2 i (sig (fun n => x0 (ix2 i n)) 4)) : EReal)) (ms (lst s j) (ix2 i ℓ))
      ((share j.val ℓ.val).val.map (item x0 x1 i))) :
    Ranked (fun n => tAll s (ix2 i n)) (fun n => pAll s (ix2 i n)) (fun r => x0 (ix2 i (sig (fun n => x0 (ix2 i n)) r)))
      (fun r => packed x1 i (sig (fun n => x0 (ix2 i n)) r).val) := by
  set y : Fin 100000 → EReal := fun n => x0 (ix2 i n) with hy
  have hcard : ∀ (ℓ : Fin 128) (j : Fin 4), (above (y (sig y 4)) ((share j.val ℓ.val).val.map (item x0 x1 i))).card ≤ 5 := by
    intro ℓ j
    unfold above
    rw [Multiset.filter_map, Multiset.card_map]
    show ((share j.val ℓ.val).filter fun n => y (sig y 4) ≤ rowX x0 i n).card ≤ 5
    refine (Finset.card_le_card (t := (Finset.range 5).image fun r => (sig y r).val) fun n hn => ?_).trans
      (Finset.card_image_le.trans (by simp))
    obtain ⟨h1, h2⟩ := Finset.mem_filter.mp hn
    have hl : n < 100000 := Finset.mem_range.mp (Finset.mem_filter.mp h1).1
    obtain ⟨r, hr, e⟩ := reach h ⟨n, hl⟩ (by
      refine h2.trans (le_of_eq ?_)
      unfold rowX
      rw [← ofNat_val ⟨n, hl⟩])
    exact Finset.mem_image.mpr ⟨r, Finset.mem_range.mpr hr, (congrArg Fin.val e).symm⟩
  have heq := fun ℓ j => hs ℓ j (hcard ℓ j)
  have hitem : ∀ n : Fin 100000, item x0 x1 i n.val = (y n, packed x1 i n.val) := fun n => by
    unfold item rowX; rw [ofNat_val]
  refine ⟨fun r hr => h.above hr, fun r r' hr hr' => ?_, fun r hr => ?_, fun r hr => ?_, fun n => ?_⟩
  · have hlt : (Fin.ofNat 100000 r) < Fin.ofNat 100000 r' := by
      show r % 100000 < r' % 100000; omega
    rcases Order.rank_lt y _ _ hlt with h1 | h1
    · exact .inl h1
    · refine .inr ⟨h1.1, ?_⟩
      have h2 : (sig y r).val < (sig y r').val := h1.2
      have hs1 : (x1 (ix2 i (sig y r))).toNat < 4 := h.small _
      rw [packed_toInt h, packed_toInt h]
      omega
  · have hs1 : (x1 (ix2 i (sig y r))).toNat < 4 := h.small _
    have hn := (sig y r).isLt
    rw [packed_toInt h]
    omega
  · obtain ⟨j, ℓ, hc⟩ := exists_share (sig y r).isLt
    have hm : item x0 x1 i (sig y r).val ∈ above (y (sig y 4)) (ms (lst s j) (ix2 i ℓ)) := by
      rw [heq ℓ j]
      refine Multiset.mem_filter.mpr ⟨Multiset.mem_map_of_mem _ hc, ?_⟩
      rw [hitem]
      exact sig_le y (by omega) (by omega)
    obtain ⟨n, e⟩ := mem_place s i j ℓ _ (Multiset.mem_filter.mp hm).1
    rw [hitem] at e
    exact ⟨n, e⟩
  · obtain ⟨j, ℓ, hm⟩ := place_mem s i n
    by_cases ht : y (sig y 4) ≤ (tAll s (ix2 i n) : EReal)
    · left
      have hm2 : ((tAll s (ix2 i n), pAll s (ix2 i n)) : Item) ∈ above (y (sig y 4)) (ms (lst s j) (ix2 i ℓ)) :=
        Multiset.mem_filter.mpr ⟨hm, ht⟩
      rw [heq ℓ j] at hm2
      obtain ⟨h1, h2⟩ := Multiset.mem_filter.mp hm2
      obtain ⟨c, hc, e⟩ := Multiset.mem_map.mp h1
      have hl : c < 100000 := Finset.mem_range.mp (Finset.mem_filter.mp (Finset.mem_val.mp hc)).1
      have e2 := (hitem ⟨c, hl⟩).symm.trans e
      obtain ⟨e3, e4⟩ := Prod.mk.inj e2
      obtain ⟨r, hr, e5⟩ := reach h ⟨c, hl⟩ (by rw [e3]; exact ht)
      refine ⟨r, hr, ?_, ?_⟩
      · rw [← e5]; exact e3.symm
      · rw [← e5]; exact e4.symm
    · exact .inr (not_le.mp ht)

end Cert.KernelIdeal.Vecs

end
-- ==== Proof.Row.lean ====
/- What is drawn for one row, as mathematics over the row's logits, counts, gate and noise; and that the kernel's vectors
   hold it. -/
module

public import proofs.«01_k».proof.Proof.Rounds

@[expose] public section

set_option maxRecDepth 16384

noncomputable section

namespace Cert.KernelIdeal.Vecs

open Idealize.ShloMosaic
open Cert.KernelIdeal Cert.KernelIdeal.Gen

/-! ## One row -/

section
variable (y : Fin 100000 → EReal) (k : Fin 100000 → BitVec 32) (g n : EReal)

/-- The softmax's denominator. -/
def den : EReal := ∑ c, Ideal.exp (y c - y (sig y 0))
/-- The probability of the column of rank `r`. -/
def pr (r : Nat) : EReal := Ideal.div (Ideal.exp (y (sig y r) - y (sig y 0))) (den y)
/-- Whether the gate is open. -/
def opened : Prop := Ideal.ofBits FTy.f32 0x3E19999A#32 < g
instance : Decidable (opened g) := inferInstanceAs (Decidable (_ < _))
/-- That probability penalised, where the gate is open. -/
def pn (r : Nat) : EReal :=
  if opened g then Ideal.div (pr y r) (Ideal.ofBits FTy.f32 0x3F800000#32 + Ideal.ofBits FTy.f32 0x40000000#32 *
    FloatOps.sitofp (F := Ideal) .f32 (k (sig y r)))
  else pr y r
/-- The sum of the first `r + 1` penalised probabilities. -/
def cd (r : Nat) : EReal := ∑ q ∈ Finset.range (r + 1), pn y k g q
/-- How many of the five sums are below the drawn number, at most four. -/
def ch : Nat := min 4 ((Finset.range 5).filter fun r => cd y k g r < n * cd y k g 4).card
/-- The column chosen. -/
def drawn : Fin 100000 := sig y (ch y k g n)
/-- The word drawn. -/
def wordR : BitVec 32 := BitVec.ofNat 32 (drawn y k g n).val
/-- Its probability. -/
def probR : EReal := pr y (ch y k g n)
/-- The count of a column afterwards. -/
def cntR (c : Fin 100000) : BitVec 32 :=
  k c + if opened g ∧ drawn y k g n = c then 1#32 else 0#32
end

theorem ch_le (y : Fin 100000 → EReal) (k : Fin 100000 → BitVec 32) (g n : EReal) : ch y k g n ≤ 4 := min_le_left _ _

/-! ## The sum of exponentials -/

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The exponential of a value below infinity, as a real number. -/
def weight (y : EReal) : ℝ := if y = ⊥ then 0 else Real.exp y.toReal

theorem weight_nonneg (y : EReal) : 0 ≤ weight y := by
  unfold weight
  split
  · exact le_rfl
  · exact (Real.exp_pos _).le

theorem weight_pos {y : EReal} (h : y ≠ ⊥) : 0 < weight y := by
  rw [weight, if_neg h]
  exact Real.exp_pos _

/-- Below infinity the exponential keeps the order. -/
theorem weight_lt {y z : EReal} (hy : y ≠ ⊤) (hz : z ≠ ⊤) : weight y < weight z ↔ y < z := by
  by_cases hb : z = ⊥
  · subst hb
    rw [weight, weight, if_pos rfl]
    exact iff_of_false (not_lt.2 (weight_nonneg y)) not_lt_bot
  · by_cases ha : y = ⊥
    · subst ha
      rw [weight, if_pos rfl]
      exact iff_of_true (weight_pos hb) (bot_lt_iff_ne_bot.2 hb)
    · rw [weight, weight, if_neg ha, if_neg hb, Real.exp_lt_exp, ← EReal.coe_lt_coe_iff, EReal.coe_toReal hy ha, EReal.coe_toReal hz hb]

/-- The exponential relative to a real number. -/
theorem exp_sub {y : EReal} (hy : y ≠ ⊤) (a : ℝ) : Ideal.exp (y - (a : EReal)) = ((weight y * Real.exp (-a) : ℝ) : EReal) := by
  by_cases hb : y = ⊥
  · subst hb
    rw [weight, if_pos rfl, zero_mul, EReal.bot_sub, Ideal.exp_bot, EReal.coe_zero]
  · rw [weight, if_neg hb, ← Real.exp_add, ← Ideal.exp_coe, EReal.coe_add, EReal.coe_neg, EReal.coe_toReal hy hb, sub_eq_add_neg]

/-- Exponentials relative to twelve, summed and brought to another base, are the exponentials relative to that. -/
theorem rebase (y : Fin 100000 → EReal) (hy : ∀ c, y c ≠ ⊤) (b : Fin 100000) (hb : y b ≠ ⊥) :
    (∑ c, Ideal.exp (y c - ((12 : ℝ) : EReal))) * Ideal.exp (((12 : ℝ) : EReal) - y b) = ∑ c, Ideal.exp (y c - y b) := by
  obtain ⟨m, hm⟩ : ∃ m : ℝ, y b = m := ⟨_, (EReal.coe_toReal (hy b) hb).symm⟩
  rw [hm]
  have e : ∀ (c : Fin 100000) (a : ℝ), Ideal.exp (y c - (a : EReal)) = ((weight (y c) * Real.exp (-a) : ℝ) : EReal) := fun c a => exp_sub (hy c) a
  simp only [e]
  rw [← EReal.coe_sub, Ideal.exp_coe, ← coe_sum, ← coe_sum, ← EReal.coe_mul, Finset.sum_mul]
  refine congrArg _ (Finset.sum_congr rfl fun c _ => ?_)
  rw [mul_assoc, ← Real.exp_add]
  congr 2
  ring

variable {x0 : Vec Ideal S8x100000 .f32} {x1 : Vec Ideal S8x100000 .i32} {i : Fin 8} {s : St Ideal}

/-- The sums of the lanes make up the row's. -/
theorem sum_acc (hs : ∀ (ℓ : Fin 128) (j : Fin 4), (acc s j (ix2 i ℓ) : EReal) = ∑ n ∈ share j.val ℓ.val, term x0 i n) :
    (∑ ℓ : Fin 128, ((s.2.1 (ix2 i ℓ) : EReal) + s.2.2.1 (ix2 i ℓ) + s.2.2.2.1 (ix2 i ℓ) + s.2.2.2.2 (ix2 i ℓ)))
      = ∑ c : Fin 100000, Ideal.exp ((x0 (ix2 i c) : EReal) - ((12 : ℝ) : EReal)) := by
  have h1 : ∀ ℓ : Fin 128, ((s.2.1 (ix2 i ℓ) : EReal) + s.2.2.1 (ix2 i ℓ) + s.2.2.2.1 (ix2 i ℓ) + s.2.2.2.2 (ix2 i ℓ))
      = ∑ j : Fin 4, ∑ n ∈ share j.val ℓ.val, term x0 i n := fun ℓ => by
    rw [Fin.sum_univ_four, ← hs ℓ 0, ← hs ℓ 1, ← hs ℓ 2, ← hs ℓ 3]
    rfl
  rw [Finset.sum_congr rfl fun ℓ _ => h1 ℓ, sum_shares, ← Fin.sum_univ_eq_sum_range]
  refine Finset.sum_congr rfl fun c _ => ?_
  unfold term rowX
  rw [ofNat_val, twelve]

/-- What is known of a block's row when every slice has been seen. -/
structure Row (x0 : Vec Ideal S8x100000 .f32) (x1 : Vec Ideal S8x100000 .i32) (i : Fin 8) (s : St Ideal) : Prop where
  good : Good (fun n => x0 (ix2 i n)) (fun n => x1 (ix2 i n))
  tops : ∀ r < 5, (top s r (ix2 i 0) : EReal) = x0 (ix2 i (sig (fun n => x0 (ix2 i n)) r))
  words : ∀ r < 5, topP s r (ix2 i 0) = packed x1 i (sig (fun n => x0 (ix2 i n)) r).val
  sums : ∀ (ℓ : Fin 128) (j : Fin 4), (acc s j (ix2 i ℓ) : EReal) = ∑ n ∈ share j.val ℓ.val, term x0 i n

namespace Row
variable (h : Row x0 x1 i s)
include h

theorem sumE_eq : (sumE s (ix2 i 0) : EReal) = den (fun n => x0 (ix2 i n)) := by
  have e : (sumE s (ix2 i 0) : EReal) = (∑ ℓ : Fin 128, ((s.2.1 (ix2 i ℓ) : EReal) + s.2.2.1 (ix2 i ℓ) + s.2.2.2.1 (ix2 i ℓ) + s.2.2.2.2 (ix2 i ℓ)))
      * Ideal.exp (Ideal.ofBits FTy.f32 0x41400000#32 - top s 0 (ix2 i 0)) := by
    pointwise [sumE]
  rw [e, sum_acc h.sums, h.tops 0 (by omega), twelve]
  unfold den
  exact rebase (fun n => x0 (ix2 i n)) h.good.top _ (h.good.above (by omega : 0 < 5)).ne'

theorem prb_eq {r : Nat} (hr : r < 5) : (prb s r (ix2 i 0) : EReal) = pr (fun n => x0 (ix2 i n)) r := by
  have e : (prb s r (ix2 i 0) : EReal) = Ideal.div (Ideal.exp ((top s r (ix2 i 0) : EReal) - top s 0 (ix2 i 0))) (sumE s (ix2 i 0)) := by
    pointwise [prb]
  rw [e, h.sumE_eq, h.tops r hr, h.tops 0 (by omega)]
  rfl

theorem topI_eq {r : Nat} (hr : r < 5) : topI s r (ix2 i 0) = BitVec.ofNat 32 (sig (fun n => x0 (ix2 i n)) r).val := by
  have e : topI s r (ix2 i 0) = IntOp.shrsi .vector (topP s r (ix2 i 0)) 2#32 := by pointwise [topI]
  have hs : (x1 (ix2 i (sig (fun n => x0 (ix2 i n)) r))).toNat < 4 := h.good.small _
  have hn := (sig (fun n => x0 (ix2 i n)) r).isLt
  rw [e, h.words r hr, IntOp.shrsi, if_pos (by decide)]
  apply BitVec.eq_of_toInt_eq
  show ((packed x1 i _).sshiftRight (2#32).toNat).toInt = _
  rw [BitVec.toInt_sshiftRight, packed_toInt h.good, Int.shiftRight_eq_div_pow,
    BitVec.toInt_eq_toNat_of_lt (by rw [BitVec.toNat_ofNat]; omega),
    BitVec.toNat_ofNat (w := 32) (sig (fun n => x0 (ix2 i n)) r).val]
  show _ / (4 : Int) = _
  omega

theorem topN_eq {r : Nat} (hr : r < 5) : topN s r (ix2 i 0) = x1 (ix2 i (sig (fun n => x0 (ix2 i n)) r)) := by
  have e : topN s r (ix2 i 0) = IntOp.andi (topP s r (ix2 i 0)) 3#32 := by pointwise [topN]
  have hs : (x1 (ix2 i (sig (fun n => x0 (ix2 i n)) r))).toNat < 4 := h.good.small _
  rw [e, h.words r hr]
  apply BitVec.eq_of_toNat_eq
  show (packed x1 i _ &&& 3#32).toNat = _
  rw [BitVec.toNat_and, packed_toNat h.good]
  show _ &&& (2 ^ 2 - 1) = _
  rw [Nat.and_two_pow_sub_one_eq_mod]
  omega

theorem pen_eq (g : FVec Ideal S8x1 .f32) {r : Nat} (hr : r < 5) :
    (pen s g r (ix2 i 0) : EReal) = pn (fun n => x0 (ix2 i n)) (fun n => x1 (ix2 i n)) (g (ix2 i 0)) r := by
  have e : (pen s g r (ix2 i 0) : EReal) = if (Ideal.ofBits FTy.f32 1041865114#32 : EReal) < g (ix2 i 0) then
      Ideal.div (prb s r (ix2 i 0)) (Ideal.ofBits FTy.f32 0x3F800000#32 + Ideal.ofBits FTy.f32 1073741824#32
        * FloatOps.sitofp (F := Ideal) .f32 (topN s r (ix2 i 0))) else prb s r (ix2 i 0) := by
    pointwise [pen, gate]
  rw [e, h.prb_eq hr, h.topN_eq hr]
  unfold pn
  exact if_congr Iff.rfl rfl rfl

theorem cdf_eq (g : FVec Ideal S8x1 .f32) {r : Nat} (hr : r < 5) :
    (cdf s g r (ix2 i 0) : EReal) = cd (fun n => x0 (ix2 i n)) (fun n => x1 (ix2 i n)) (g (ix2 i 0)) r := by
  induction r with
  | zero =>
    unfold cd
    rw [Finset.sum_range_one]
    exact h.pen_eq g hr
  | succ r ih =>
    unfold cd
    rw [Finset.sum_range_succ]
    exact congrArg₂ (fun a b : EReal => a + b) (ih (by omega)) (h.pen_eq g hr)

end Row

/-- Five bits added up, clamped to four. -/
theorem count_bits : ∀ b0 b1 b2 b3 b4 : Bool,
    IntOp.minsi 4#32 (IntOp.maxsi 0#32 (IntOp.addi (IntOp.addi (IntOp.addi (IntOp.addi (BitVec.setWidth 32 (BitVec.ofBool b0))
      (BitVec.setWidth 32 (BitVec.ofBool b1))) (BitVec.setWidth 32 (BitVec.ofBool b2))) (BitVec.setWidth 32 (BitVec.ofBool b3)))
      (BitVec.setWidth 32 (BitVec.ofBool b4))))
      = BitVec.ofNat 32 (min 4 (b0.toNat + b1.toNat + b2.toNat + b3.toNat + b4.toNat)) := by
  decide +kernel

theorem card_five (P : Nat → Prop) [DecidablePred P] : ((Finset.range 5).filter P).card
    = (decide (P 0)).toNat + (decide (P 1)).toNat + (decide (P 2)).toNat + (decide (P 3)).toNat + (decide (P 4)).toNat := by
  have e : ∀ r, (decide (P r)).toNat = if P r then 1 else 0 := fun r => by split_ifs with h <;> simp [h]
  rw [Finset.card_filter, e, e, e, e, e]
  simp only [Finset.sum_range_succ, Finset.sum_range_zero, zero_add]

/-- Choosing one of five by a number up to four. -/
theorem pick_apply {α : Type} (c : IVec S8x1 32) (f : Nat → S8x1.Idx → α) (y : S8x1.Idx) (q : Nat) (hq : q ≤ 4)
    (hc : c y = BitVec.ofNat 32 q) : pick c f y = f q y := by
  show Scalar.select (IntOp.cmpi .eq (c y) 0#32) (f 0 y) (Scalar.select (IntOp.cmpi .eq (c y) 1#32) (f 1 y)
    (Scalar.select (IntOp.cmpi .eq (c y) 2#32) (f 2 y) (Scalar.select (IntOp.cmpi .eq (c y) 3#32) (f 3 y) (f 4 y)))) = _
  rw [hc]
  match q, hq with
  | 0, _ | 1, _ | 2, _ | 3, _ | 4, _ => rfl

namespace Row
variable (h : Row x0 x1 i s) (g n : FVec Ideal S8x1 .f32)
include h

theorem choice_eq : choice s g n (ix2 i 0)
    = BitVec.ofNat 32 (ch (fun n => x0 (ix2 i n)) (fun n => x1 (ix2 i n)) (g (ix2 i 0)) (n (ix2 i 0))) := by
  have hu : ∀ r < 5, under s g n r (ix2 i 0) = BitVec.setWidth 32 (BitVec.ofBool (decide
      (cd (fun n => x0 (ix2 i n)) (fun n => x1 (ix2 i n)) (g (ix2 i 0)) r
        < n (ix2 i 0) * cd (fun n => x0 (ix2 i n)) (fun n => x1 (ix2 i n)) (g (ix2 i 0)) 4))) := fun r hr => by
    have e : under s g n r (ix2 i 0) = BitVec.setWidth 32 (BitVec.ofBool (decide ((cdf s g r (ix2 i 0) : EReal)
        < n (ix2 i 0) * cdf s g 4 (ix2 i 0)))) := by
      pointwise [under]
    rw [e, h.cdf_eq g hr, h.cdf_eq g (by omega : 4 < 5)]
  have e : choice s g n (ix2 i 0) = IntOp.minsi 4#32 (IntOp.maxsi 0#32 (IntOp.addi (IntOp.addi (IntOp.addi (IntOp.addi
      (under s g n 0 (ix2 i 0)) (under s g n 1 (ix2 i 0))) (under s g n 2 (ix2 i 0))) (under s g n 3 (ix2 i 0)))
      (under s g n 4 (ix2 i 0)))) := by
    pointwise [choice]
  rw [e, hu 0 (by omega), hu 1 (by omega), hu 2 (by omega), hu 3 (by omega), hu 4 (by omega), count_bits]
  unfold ch
  rw [card_five]

theorem word_eq : word s g n (ix2 i 0)
    = wordR (fun n => x0 (ix2 i n)) (fun n => x1 (ix2 i n)) (g (ix2 i 0)) (n (ix2 i 0)) := by
  unfold word
  rw [pick_apply _ _ _ _ (ch_le _ _ _ _) (h.choice_eq g n)]
  exact h.topI_eq (Nat.lt_succ_of_le (ch_le _ _ _ _))

theorem prob_eq : (prob s g n (ix2 i 0) : EReal)
    = probR (fun n => x0 (ix2 i n)) (fun n => x1 (ix2 i n)) (g (ix2 i 0)) (n (ix2 i 0)) := by
  unfold prob
  rw [pick_apply _ _ _ _ (ch_le _ _ _ _) (h.choice_eq g n)]
  exact h.prb_eq (Nat.lt_succ_of_le (ch_le _ _ _ _))

theorem cnts_eq (c : Fin 100000) : cnts s g n x1 (ix2 i c)
    = cntR (fun n => x0 (ix2 i n)) (fun n => x1 (ix2 i n)) (g (ix2 i 0)) (n (ix2 i 0)) c := by
  have e : cnts s g n x1 (ix2 i c) = IntOp.addi (x1 (ix2 i c)) (BitVec.setWidth 32 (IntOp.cmpi .eq (BitVec.ofNat 32 c.val)
      (Scalar.select (BitVec.ofBool (decide ((Ideal.ofBits FTy.f32 1041865114#32 : EReal) < g (ix2 i 0)))) (word s g n (ix2 i 0)) 4294967295#32))) := by
    pointwise [cnts, gate]
  rw [e, h.word_eq g n]
  unfold cntR wordR
  have hc := c.isLt
  have hd := (drawn (fun n => x0 (ix2 i n)) (fun n => x1 (ix2 i n)) (g (ix2 i 0)) (n (ix2 i 0))).isLt
  refine congrArg (x1 (ix2 i c) + ·) ?_
  generalize drawn (fun n => x0 (ix2 i n)) (fun n => x1 (ix2 i n)) (g (ix2 i 0)) (n (ix2 i 0)) = d at hd ⊢
  unfold opened
  by_cases hg : (Ideal.ofBits FTy.f32 1041865114#32 : EReal) < g (ix2 i 0)
  · by_cases hdc : d = c
    · rw [if_pos ⟨hg, hdc⟩, hdc, decide_eq_true hg]
      simp [Scalar.select, IntOp.cmpi]
    · have hne : (BitVec.ofNat 32 c.val == BitVec.ofNat 32 d.val) = false := by
        refine beq_eq_false_iff_ne.mpr fun hh => hdc (Fin.ext ?_)
        have := congrArg BitVec.toNat hh
        rw [BitVec.toNat_ofNat, BitVec.toNat_ofNat] at this
        omega
      rw [if_neg (fun h => hdc h.2), decide_eq_true hg]
      show BitVec.setWidth 32 (BitVec.ofBool (BitVec.ofNat 32 c.val == BitVec.ofNat 32 d.val)) = _
      rw [hne]; rfl
  · have hne : (BitVec.ofNat 32 c.val == 4294967295#32) = false := by
      refine beq_eq_false_iff_ne.mpr fun hh => ?_
      have := congrArg BitVec.toNat hh
      rw [BitVec.toNat_ofNat, BitVec.toNat_ofNat] at this
      omega
    rw [if_neg (fun h => hg h.1), decide_eq_false hg]
    show BitVec.setWidth 32 (BitVec.ofBool (BitVec.ofNat 32 c.val == 4294967295#32)) = _
    rw [hne]; rfl

end Row

/-- When every slice has been seen, all of this is known of a good row. -/
theorem row_of_done (h : Good (fun n => x0 (ix2 i n)) (fun n => x1 (ix2 i n)))
    (hd : ∀ (τ : EReal), ⊥ < τ → ∀ (ℓ : Fin 128) (j : Fin 4), Done x0 x1 τ i ℓ j (lst s j) (acc s j)) : Row x0 x1 i s := by
  have hτ : ⊥ < (x0 (ix2 i (sig (fun n => x0 (ix2 i n)) 4)) : EReal) := h.above (by omega)
  have hr := ranked h fun ℓ j => (hd _ hτ ℓ j).1
  exact ⟨h, fun r h5 => ((rounds s i _ _ hr r).1 h5).1, fun r h5 => ((rounds s i _ _ hr r).1 h5).2, fun ℓ j => (hd _ hτ ℓ j).2⟩

end Cert.KernelIdeal.Vecs

end
-- ==== Proof.Stage.lean ====
/- What the kernel leaves in a point's staging buffers, row by row: the word, the probability and the counts of each of the
   block's eight rows. -/
module

public import proofs.«01_k».proof.Proof.Row
public import Idealize.ShloMosaic.Lib.Pipeline.Value

@[expose] public section

set_option maxRecDepth 16384

noncomputable section

namespace Cert.KernelIdeal.Vecs

open Idealize.ShloMosaic
open Cert.KernelIdeal Cert.KernelIdeal.Gen

theorem hz : (![0, 0] : Fin 2 → Nat) = fun _ => 0 := funext fun a => by fin_cases a <;> rfl

section
variable (c : Dev nD) (i : grid0.Coords) (arg1 : Memref Cert.KernelIdeal.sig .tc .vmem S8x100000 .f32) (harg1 : arg1.IsWhole) (arg2 : Memref Cert.KernelIdeal.sig .tc .vmem S8x100000 .i32) (harg2 : arg2.IsWhole) (arg3 : Memref Cert.KernelIdeal.sig .tc .vmem S8x1 .f32) (harg3 : arg3.IsWhole) (arg4 : Memref Cert.KernelIdeal.sig .tc .vmem S8x1 .f32) (harg4 : arg4.IsWhole) (arg5 : Memref Cert.KernelIdeal.sig .tc .vmem S8x1 .i32) (harg5 : arg5.IsWhole) (arg6 : Memref Cert.KernelIdeal.sig .tc .vmem S8x1 .f32) (harg6 : arg6.IsWhole) (arg7 : Memref Cert.KernelIdeal.sig .tc .vmem S8x100000 .i32) (harg7 : arg7.IsWhole)
  (x0 : Vec Ideal S8x100000 .f32) (x1 : Vec Ideal S8x100000 .i32) (x2 : Vec Ideal S8x1 .f32) (x3 : Vec Ideal S8x1 .f32)

/-- The loaded gates are the block of gates. -/
theorem ldg_eq : ldg arg3 harg3 x2 = x2 := by
  unfold ldg
  rw [View.readAt_eq_ld, Memref.IsWhole.read_unread]
  exact View.ld_unit_zero hz _ _

/-- The loaded noise is the block of noise. -/
theorem ldz_eq : ldz arg4 harg4 x3 = x3 := by
  unfold ldz
  rw [View.readAt_eq_ld, Memref.IsWhole.read_unread]
  exact View.ld_unit_zero hz _ _

variable (r : Fin 8) (h : Good (fun n => x0 (ix2 r n)) (fun n => x1 (ix2 r n)))
include h

theorem row_fin : Row x0 x1 r (fin c i arg1 harg1 arg2 harg2 arg3 harg3 arg4 harg4 arg5 harg5 arg6 harg6 arg7 harg7 x0 x1) :=
  row_of_done h fun τ hτ ℓ j => fin_done c i arg1 harg1 arg2 harg2 arg3 harg3 arg4 harg4 arg5 harg5 arg6 harg6 arg7 harg7 x0 x1 τ hτ r ℓ j

/-- The staged word of a row. -/
theorem out_word : out0_A_4 c i arg1 harg1 arg2 harg2 arg3 harg3 arg4 harg4 arg5 harg5 arg6 harg6 arg7 harg7 x0 x1 x2 x3 (ix2 r 0)
    = wordR (fun n => x0 (ix2 r n)) (fun n => x1 (ix2 r n)) (x2 (ix2 r 0)) (x3 (ix2 r 0)) := by
  unfold out0_A_4
  rw [View.read_writes_eq_canon _ _ _ (cover0_A_4 c i arg1 harg1 arg2 harg2 arg3 harg3 arg4 harg4 arg5 harg5 arg6 harg6 arg7 harg7 x0 x1 x2 x3),
    run_word, View.canon_unit_zero hz, ldg_eq, ldz_eq]
  exact (row_fin c i arg1 harg1 arg2 harg2 arg3 harg3 arg4 harg4 arg5 harg5 arg6 harg6 arg7 harg7 x0 x1 r h).word_eq x2 x3

/-- The staged probability of a row. -/
theorem out_prob : (out0_A_5 c i arg1 harg1 arg2 harg2 arg3 harg3 arg4 harg4 arg5 harg5 arg6 harg6 arg7 harg7 x0 x1 x2 x3 (ix2 r 0) : EReal)
    = probR (fun n => x0 (ix2 r n)) (fun n => x1 (ix2 r n)) (x2 (ix2 r 0)) (x3 (ix2 r 0)) := by
  unfold out0_A_5
  rw [View.read_writes_eq_canon _ _ _ (cover0_A_5 c i arg1 harg1 arg2 harg2 arg3 harg3 arg4 harg4 arg5 harg5 arg6 harg6 arg7 harg7 x0 x1 x2 x3),
    run_prob, View.canon_unit_zero hz, ldg_eq, ldz_eq]
  exact (row_fin c i arg1 harg1 arg2 harg2 arg3 harg3 arg4 harg4 arg5 harg5 arg6 harg6 arg7 harg7 x0 x1 r h).prob_eq x2 x3

/-- The staged counts of a row. -/
theorem out_cnts (n : Fin 100000) : out0_A_6 c i arg1 harg1 arg2 harg2 arg3 harg3 arg4 harg4 arg5 harg5 arg6 harg6 arg7 harg7 x0 x1 x2 x3 (ix2 r n)
    = cntR (fun n => x0 (ix2 r n)) (fun n => x1 (ix2 r n)) (x2 (ix2 r 0)) (x3 (ix2 r 0)) n := by
  have e : View.readAt (Elt Ideal) arg2.view (Rect.unit (s := S8x100000) ![0, 0] S8x100000.size inb_S8x100000_S8x100000_0_0).toLoadRect (harg2.unread x1) = x1 := by
    rw [View.readAt_eq_ld, Memref.IsWhole.read_unread]
    exact View.ld_unit_zero hz _ _
  unfold out0_A_6
  rw [View.read_writes_eq_canon _ _ _ (cover0_A_6 c i arg1 harg1 arg2 harg2 arg3 harg3 arg4 harg4 arg5 harg5 arg6 harg6 arg7 harg7 x0 x1 x2 x3),
    run_cnts, View.canon_unit_zero hz, ldg_eq, ldz_eq, e]
  exact (row_fin c i arg1 harg1 arg2 harg2 arg3 harg3 arg4 harg4 arg5 harg5 arg6 harg6 arg7 harg7 x0 x1 r h).cnts_eq x2 x3 n

end

end Cert.KernelIdeal.Vecs

end
-- ==== Proof.Whole.lean ====
/- The kernel's three result arrays, row by row: each of the sixteen blocks of eight rows is written back once, and the
   blocks make up the arrays. -/
module

public import proofs.«01_k».proof.Proof.Stage
public import Idealize.ShloMosaic.Lib.StableHlo.Run

@[expose] public section

set_option maxRecDepth 16384

noncomputable section

namespace Cert.KernelIdeal.Whole

open Idealize.ShloMosaic Idealize.ShloMosaic.TcCoe Idealize.SL.Sem
open Cert.KernelIdeal Cert.KernelIdeal.Gen
open Cert.KernelIdeal.Vecs (Good wordR probR cntR out_word out_prob out_cnts)

/-- The row of the whole batch that is row `r` of block `t`. -/
def down (t : Fin cfg0.N) (r : Fin 8) : Fin 128 := ⟨8 * t.val + r.val, by
  have h := t.isLt
  have hN : cfg0.N = 16 := N_0
  omega⟩

/-- Every row of the batch is a row of a block. -/
theorem down_surjective (b : Fin 128) : ∃ t r, down t r = b := by
  have hN : cfg0.N = 16 := N_0
  refine ⟨⟨b.val / 8, by omega⟩, ⟨b.val % 8, by omega⟩, Fin.ext ?_⟩
  show 8 * (b.val / 8) + b.val % 8 = b.val
  omega

/-- Block `t` begins at row `8 t`. -/
theorem coord_at (t : Fin cfg0.N) : cc0_transform_0 (grid0.coords t) 0 = t.val ∧ cc0_transform_0 (grid0.coords t) 1 = 0 := by
  rcases fin_N0 t with rfl | rfl | rfl | rfl | rfl | rfl | rfl | rfl | rfl | rfl | rfl | rfl | rfl | rfl | rfl | rfl <;> decide

/-- Where an element of a wide block lies. -/
theorem emb0 (t : Fin cfg0.N) (r : Fin 8) (n : Fin 100000) : ((cfg0.win 0).blk t).view.emb (ix2 r n) = ix2 (down t r) n := by
  have e := coord_at t
  funext a
  apply Fin.ext
  match a with
  | ⟨0, _⟩ => show cc0_transform_0 (grid0.coords t) 0 * 8 + 1 * r.val = 8 * t.val + r.val; rw [e.1]; omega
  | ⟨1, _⟩ => show cc0_transform_0 (grid0.coords t) 1 * 100000 + 1 * n.val = n.val; rw [e.2]; omega

theorem emb1 (t : Fin cfg0.N) (r : Fin 8) (n : Fin 100000) : ((cfg0.win 1).blk t).view.emb (ix2 r n) = ix2 (down t r) n := emb0 t r n

theorem emb6 (t : Fin cfg0.N) (r : Fin 8) (n : Fin 100000) : ((cfg0.win 6).blk t).view.emb (ix2 r n) = ix2 (down t r) n := emb0 t r n

/-- Where an element of a narrow block lies. -/
theorem emb2 (t : Fin cfg0.N) (r : Fin 8) : ((cfg0.win 2).blk t).view.emb (ix2 r 0) = ix2 (down t r) 0 := by
  have e := coord_at t
  funext a
  apply Fin.ext
  match a with
  | ⟨0, _⟩ => show cc0_transform_0 (grid0.coords t) 0 * 8 + 1 * r.val = 8 * t.val + r.val; rw [e.1]; omega
  | ⟨1, _⟩ => show cc0_transform_0 (grid0.coords t) 1 * 1 + 1 * 0 = 0; rw [e.2]

theorem emb3 (t : Fin cfg0.N) (r : Fin 8) : ((cfg0.win 3).blk t).view.emb (ix2 r 0) = ix2 (down t r) 0 := emb2 t r

theorem emb4 (t : Fin cfg0.N) (r : Fin 8) : ((cfg0.win 4).blk t).view.emb (ix2 r 0) = ix2 (down t r) 0 := emb2 t r

theorem emb5 (t : Fin cfg0.N) (r : Fin 8) : ((cfg0.win 5).blk t).view.emb (ix2 r 0) = ix2 (down t r) 0 := emb2 t r

variable (m : (ℓ : Loc nD τ sig) → Buf (Elt Ideal) ℓ) (c : Dev nD)

/-- A row of logits. -/
def lg (b : Fin 128) (n : Fin 100000) : EReal := m ((c : Thread nD τ).loc main_arg0) (ix2 b n)
/-- A row of counts. -/
def ct (b : Fin 128) (n : Fin 100000) : BitVec 32 := m ((c : Thread nD τ).loc main_arg1) (ix2 b n)
/-- A row's gate. -/
def gt (b : Fin 128) : EReal := m ((c : Thread nD τ).loc main_arg2) (ix1 b)
/-- A row's noise. -/
def nz (b : Fin 128) : EReal := m ((c : Thread nD τ).loc main_arg3) (ix1 b)

/-- The gates as the blocks are cut from them: one column. -/
theorem V_gates : V m c main_call0_v0 = shapeCast S128x1 (m ((c : Thread nD τ).loc main_arg2) : FVec Ideal S128 .f32) shapeCasts_S128_S128x1 := by
  show StableHlo.after hostOps0 (fun b => m (c, b)) (Proc.devRef .tc main_call0_v0) = _
  simp only [hostOps0, StableHlo.after_cons, StableHlo.after_nil, StableHlo.TRef.reshape]
  rw [StableHlo.reshape_result_ne, StableHlo.reshape_result]
  · rfl
  · decide

theorem V_noise : V m c main_call0_v1 = shapeCast S128x1 (m ((c : Thread nD τ).loc main_arg3) : FVec Ideal S128 .f32) shapeCasts_S128_S128x1 := by
  show StableHlo.after hostOps0 (fun b => m (c, b)) (Proc.devRef .tc main_call0_v1) = _
  simp only [hostOps0, StableHlo.after_cons, StableHlo.after_nil, StableHlo.TRef.reshape]
  rw [StableHlo.reshape_result, StableHlo.reshape_result_ne]
  · rfl
  · decide

theorem col (x : FVec Ideal S128 .f32) (b : Fin 128) : shapeCast S128x1 x shapeCasts_S128_S128x1 (ix2 b 0) = x (ix1 b) := by
  pointwise

theorem flat {α : Type} (x : S128x1.Idx → α) (b : Fin 128) : shapeCast S128 x shapeCasts_S128x1_S128 (ix1 b) = x (ix2 b 0) := by
  pointwise

theorem blk0 (t : Fin cfg0.N) (r : Fin 8) (n : Fin 100000) : (iblk m c 0 t (ix2 r n) : EReal) = lg m c (down t r) n := by
  show V m c main_arg0 (((cfg0.win 0).blk t).view.emb (ix2 r n)) = _
  rw [emb0, V_main_arg0]
  rfl

theorem blk1 (t : Fin cfg0.N) (r : Fin 8) (n : Fin 100000) : iblk m c 1 t (ix2 r n) = ct m c (down t r) n := by
  show V m c main_arg1 (((cfg0.win 1).blk t).view.emb (ix2 r n)) = _
  rw [emb1, V_main_arg1]
  rfl

theorem blk2 (t : Fin cfg0.N) (r : Fin 8) : (iblk m c 2 t (ix2 r 0) : EReal) = gt m c (down t r) := by
  show V m c main_call0_v0 (((cfg0.win 2).blk t).view.emb (ix2 r 0)) = _
  rw [emb2, V_gates]
  exact col _ _

theorem blk3 (t : Fin cfg0.N) (r : Fin 8) : (iblk m c 3 t (ix2 r 0) : EReal) = nz m c (down t r) := by
  show V m c main_call0_v1 (((cfg0.win 3).blk t).view.emb (ix2 r 0)) = _
  rw [emb3, V_noise]
  exact col _ _

/-! ## The three arrays -/

/-- What is asked of every row of the batch. -/
def AllGood : Prop := ∀ b, Good (lg m c b) (ct m c b)

/-- The words, as one column. -/
def wordsK : IVec S128x1 32 := fun i => wordR (lg m c (i 0)) (ct m c (i 0)) (gt m c (i 0)) (nz m c (i 0))
/-- The probabilities, as one column. -/
def probsK : FVec Ideal S128x1 .f32 := fun i => probR (lg m c (i 0)) (ct m c (i 0)) (gt m c (i 0)) (nz m c (i 0))
/-- The counts. -/
def countsK : IVec S128x100000 32 := fun i => cntR (lg m c (i 0)) (ct m c (i 0)) (gt m c (i 0)) (nz m c (i 0)) (i 1)

theorem countsK_apply (b : Fin 128) (n : Fin 100000) :
    countsK m c (ix2 b n) = cntR (lg m c b) (ct m c b) (gt m c b) (nz m c b) n := by
  unfold countsK
  rfl

/-- An index of a column is a row. -/
theorem ix_col {n : Nat} (i : (⟨2, ![n, 1]⟩ : Shape).Idx) : i = ix2 (i 0) 0 := by
  funext a
  match a with
  | ⟨0, _⟩ => rfl
  | ⟨1, _⟩ => exact Subsingleton.elim (α := Fin 1) _ _

/-- An index of an array is a row and a column. -/
theorem ix_pair {n k : Nat} (i : (⟨2, ![n, k]⟩ : Shape).Idx) : i = ix2 (i 0) (i 1) := by
  funext a
  match a with
  | ⟨0, _⟩ => rfl
  | ⟨1, _⟩ => rfl

/-- A staged block whose rows are the rows of an array is what the block's view reads of the array. -/
theorem cut4 (t : Fin cfg0.N) (X : IVec S8x1 32) (G : IVec S128x1 32) (h : ∀ r, X (ix2 r 0) = G (ix2 (down t r) 0)) :
    (cfg0.win 4).cut (grid0.coords t) X = ((cfg0.win 4).blk t).view.read (Elt Ideal) G := by
  funext j
  obtain ⟨r, rfl⟩ : ∃ r : Fin 8, j = ix2 r 0 := ⟨j 0, ix_col j⟩
  exact (h r).trans (congrArg G (emb4 t r).symm)

theorem cut5 (t : Fin cfg0.N) (X : FVec Ideal S8x1 .f32) (G : FVec Ideal S128x1 .f32) (h : ∀ r, X (ix2 r 0) = G (ix2 (down t r) 0)) :
    (cfg0.win 5).cut (grid0.coords t) X = ((cfg0.win 5).blk t).view.read (Elt Ideal) G := by
  funext j
  obtain ⟨r, rfl⟩ : ∃ r : Fin 8, j = ix2 r 0 := ⟨j 0, ix_col j⟩
  exact (h r).trans (congrArg G (emb5 t r).symm)

theorem cut6 (t : Fin cfg0.N) (X : IVec S8x100000 32) (G : IVec S128x100000 32) (h : ∀ r n, X (ix2 r n) = G (ix2 (down t r) n)) :
    (cfg0.win 6).cut (grid0.coords t) X = ((cfg0.win 6).blk t).view.read (Elt Ideal) G := by
  funext j
  obtain ⟨r, n, rfl⟩ : ∃ (r : Fin 8) (n : Fin 100000), j = ix2 r n := ⟨j 0, j 1, ix_pair j⟩
  exact (h r n).trans (congrArg G (emb6 t r n).symm)

theorem rowX_eq (t : Fin cfg0.N) (r : Fin 8) : (fun n => (iblk m c 0 t (ix2 r n) : EReal)) = lg m c (down t r) := funext fun n => blk0 m c t r n
theorem rowC_eq (t : Fin cfg0.N) (r : Fin 8) : (fun n => iblk m c 1 t (ix2 r n)) = ct m c (down t r) := funext fun n => blk1 m c t r n

section
variable {m c} (h : AllGood m c)
include h

theorem good_blk (t : Fin cfg0.N) (r : Fin 8) : Good (fun n => (iblk m c 0 t (ix2 r n) : EReal)) (fun n => iblk m c 1 t (ix2 r n)) := by
  rw [rowX_eq, rowC_eq]
  exact h _

/-- The words a point leaves staged. -/
theorem staged4 (t : Fin cfg0.N) (r : Fin 8) : (outsAt0 m c t).1 (ix2 r 0) = wordsK m c (ix2 (down t r) 0) := by
  unfold outsAt0
  refine (out_word _ _ _ _ _ _ _ _ _ _ _ _ _ _ _ _ _ _ _ _ r (good_blk h t r)).trans ?_
  rw [rowX_eq, rowC_eq, blk2, blk3]
  rfl

/-- The probabilities a point leaves staged. -/
theorem staged5 (t : Fin cfg0.N) (r : Fin 8) : (outsAt0 m c t).2.1 (ix2 r 0) = probsK m c (ix2 (down t r) 0) := by
  unfold outsAt0
  refine (out_prob _ _ _ _ _ _ _ _ _ _ _ _ _ _ _ _ _ _ _ _ r (good_blk h t r)).trans ?_
  rw [rowX_eq, rowC_eq, blk2, blk3]
  rfl

/-- The counts a point leaves staged. -/
theorem staged6 (t : Fin cfg0.N) (r : Fin 8) (n : Fin 100000) : (outsAt0 m c t).2.2 (ix2 r n) = countsK m c (ix2 (down t r) n) := by
  have e := out_cnts c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) r (good_blk h t r) n
  rw [rowX_eq, rowC_eq, blk2, blk3] at e
  have e2 : (outsAt0 m c t).2.2 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) := by
    unfold outsAt0
    with_reducible rfl
  rw [countsK_apply, ← e, e2]

/-- What a point writes back of the words is its block of them. -/
theorem flushed4 (t : Fin cfg0.N) : (dats m 0 c).flushed 4 t = ((cfg0.win 4).blk t).view.read (Elt Ideal) (wordsK m c) := by
  show (cfg0.win 4).cut (grid0.coords t) ((dats m 0 c).after 4 t) = _
  rw [after0_4]
  exact cut4 t _ _ (staged4 h t)

/-- What a point writes back of the probabilities is its block of them. -/
theorem flushed5 (t : Fin cfg0.N) : (dats m 0 c).flushed 5 t = ((cfg0.win 5).blk t).view.read (Elt Ideal) (probsK m c) := by
  show (cfg0.win 5).cut (grid0.coords t) ((dats m 0 c).after 5 t) = _
  rw [after0_5]
  exact cut5 t _ _ (staged5 h t)

/-- What a point writes back of the counts is its block of them. -/
theorem flushed6 (t : Fin cfg0.N) : (dats m 0 c).flushed 6 t = ((cfg0.win 6).blk t).view.read (Elt Ideal) (countsK m c) := by
  show (cfg0.win 6).cut (grid0.coords t) ((dats m 0 c).after 6 t) = _
  rw [after0_6]
  exact cut6 t _ _ (staged6 h t)

theorem final4 : (dats m 0 c).arrAt 4 cfg0.N = wordsK m c :=
  (dats m 0 c).arrAt_eq_of_cover 4 (wordsK m c) (fun t _ => flushed4 h t) fun (i : S128x1.Idx) => by
    obtain ⟨b, rfl⟩ : ∃ b : Fin 128, i = ix2 b 0 := ⟨i 0, ix_col i⟩
    obtain ⟨t, r, rfl⟩ := down_surjective b
    exact ⟨t, flush0_4 t, emb4 t r ▸ ((cfg0.win 4).blk t).view.emb_mem_set (ix2 r 0)⟩

theorem final5 : (dats m 0 c).arrAt 5 cfg0.N = probsK m c :=
  (dats m 0 c).arrAt_eq_of_cover 5 (probsK m c) (fun t _ => flushed5 h t) fun (i : S128x1.Idx) => by
    obtain ⟨b, rfl⟩ : ∃ b : Fin 128, i = ix2 b 0 := ⟨i 0, ix_col i⟩
    obtain ⟨t, r, rfl⟩ := down_surjective b
    exact ⟨t, flush0_5 t, emb5 t r ▸ ((cfg0.win 5).blk t).view.emb_mem_set (ix2 r 0)⟩

theorem final6 : (dats m 0 c).arrAt 6 cfg0.N = countsK m c :=
  (dats m 0 c).arrAt_eq_of_cover 6 (countsK m c) (fun t _ => flushed6 h t) fun (i : S128x100000.Idx) => by
    obtain ⟨b, n, rfl⟩ : ∃ (b : Fin 128) (n : Fin 100000), i = ix2 b n := ⟨i 0, i 1, ix_pair i⟩
    obtain ⟨t, r, rfl⟩ := down_surjective b
    exact ⟨t, flush0_6 t, emb6 t r n ▸ ((cfg0.win 6).blk t).view.emb_mem_set (ix2 r n)⟩

/-- The words after the last reshape. -/
theorem words_last : Pipeline.afterTail₀ cfgs (dats m) 0 (V0 m) [hostOps1] c main_v0_0 = shapeCast S128 (wordsK m c) shapeCasts_S128x1_S128 := by
  show StableHlo.after hostOps1 (Pipeline.withArrays spec0 c (V0 m c) fun w => (dats m 0 c).arrAt w cfg0.N) (Proc.devRef .tc main_v0_0) = _
  simp only [hostOps1, StableHlo.after_cons, StableHlo.after_nil, StableHlo.TRef.reshape]
  rw [StableHlo.reshape_result_ne, StableHlo.reshape_result]
  · have e := (Pipeline.withArrays_arr spec0 launch0.win.arr_inj c (V0 m c) (fun w => (dats m 0 c).arrAt w cfg0.N) 4).trans (final4 h)
    exact congrArg (fun x : IVec S128x1 32 => shapeCast S128 x shapeCasts_S128x1_S128) e
  · decide

/-- The probabilities after the last reshape. -/
theorem probs_last : Pipeline.afterTail₀ cfgs (dats m) 0 (V0 m) [hostOps1] c main_v0_1 = shapeCast S128 (probsK m c) shapeCasts_S128x1_S128 := by
  show StableHlo.after hostOps1 (Pipeline.withArrays spec0 c (V0 m c) fun w => (dats m 0 c).arrAt w cfg0.N) (Proc.devRef .tc main_v0_1) = _
  simp only [hostOps1, StableHlo.after_cons, StableHlo.after_nil, StableHlo.TRef.reshape]
  rw [StableHlo.reshape_result, StableHlo.reshape_result_ne]
  · have e := (Pipeline.withArrays_arr spec0 launch0.win.arr_inj c (V0 m c) (fun w => (dats m 0 c).arrAt w cfg0.N) 5).trans (final5 h)
    exact congrArg (fun x : FVec Ideal S128x1 .f32 => shapeCast S128 x shapeCasts_S128x1_S128) e
  · decide

end

/-- The kernel's results: every row's word, probability and counts, the arguments unchanged. -/
theorem run (ρ : Dev nD → PrngReg) (h : ∀ c, AllGood m c) :
    θ_run defs (onTc (τ := τ) (main (F := Ideal))) ⟨m, fun _ => 0, ρ⟩ fun r => ∀ c : Dev nD,
      r.2.mem ((c.tc : Thread nD τ).loc main_v0_0) = shapeCast S128 (wordsK m c) shapeCasts_S128x1_S128
      ∧ r.2.mem ((c.tc : Thread nD τ).loc main_v0_1) = shapeCast S128 (probsK m c) shapeCasts_S128x1_S128
      ∧ r.2.mem ((c.tc : Thread nD τ).loc main_v0_2) = countsK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ hr c => ⟨
      ((hr c).2 main_v0_0 (Pipeline.mem_restRefs_of main_v0_0 (by decide) (by decide))).trans (words_last (h c)),
      ((hr c).2 main_v0_1 (Pipeline.mem_restRefs_of main_v0_1 (by decide) (by decide))).trans (probs_last (h c)),
      ((hr c).1 6).trans (final6 (h c)),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c)⟩)
    (run_main m ρ)

end Cert.KernelIdeal.Whole

end
-- ==== Proof.Reference.lean ====
/- What the reference's terms hold, row by row: the softmax, the five greatest, the draw. -/
module

public import proofs.«01_k».proof.Proof.Row
public import proofs.«01_k».proof.Proof.Gen.ReferenceIdeal.Run
public import Idealize.ShloMosaic.Lib.Tactic.CleanTypes
public import Idealize.ShloMosaic.Lib.Routing.Ops
public import Idealize.ShloMosaic.Lib.Routing.OpsPair

@[expose] public section

set_option maxRecDepth 16384

noncomputable section

namespace Cert.ReferenceIdeal.Value

open Idealize.ShloMosaic Cert.ReferenceIdeal Cert.ReferenceIdeal.Gen
open Cert.KernelIdeal.Vecs renaming sig → nth
open Cert.KernelIdeal.Vecs (Good weight_nonneg weight_pos weight_lt exp_sub weight den pr opened pn cd ch drawn wordR probR cntR ch_le coe_sum negInf ofNat_val sig_le)

/-! ## The row's maximum -/

/-- Reducing the rows of an array by the maximum, read at a row. -/
theorem fold_row {B N : Nat} (X : (⟨2, ![B, N]⟩ : Shape).Idx → EReal) (h : (⟨2, ![B, N]⟩ : Shape).ReducesTo [1] ⟨1, ![B]⟩)
    (hh : (⟨2, ![B, N]⟩ : Shape).Reduces [1] ⟨1, ![B]⟩) {u : Shape} (init : u.Idx → EReal) (hu : 0 < u.numel) (b : Fin B) :
    Host.reduce (max : EReal → EReal → EReal) X init h hu (ix1 b)
      = Finset.fold max (init (Shape.Idx.first hu)) (fun x : Fin N => X (ix2 b x)) Finset.univ := by
  rw [Host.reduce_eq_fold_single _ _ _ h hh]
  refine congrArg (fun f => Finset.fold max _ f Finset.univ) (funext fun x => congrArg X (funext fun a => Fin.ext ?_))
  rw [hh.lift_val]
  fin_cases a <;> rfl

/-- The maximum of each row. -/
def rowMax (X : FVec Ideal S128x100000 .f32) : FVec Ideal S128 .f32 :=
  Host.reduce FloatOps.maximumf X (constant S_ .f32 0xFF800000#32) reducesTo_S128x100000_S128_d1 h_S_

theorem fold_max_eq {n : Nat} (y : Fin n → EReal) (m : Fin n) (hm : ∀ c, y c ≤ y m) :
    Finset.fold max ⊥ y Finset.univ = y m :=
  le_antisymm ((Finset.fold_max_le _).2 ⟨bot_le, fun c _ => hm c⟩) ((Finset.le_fold_max _).2 (Or.inr ⟨m, Finset.mem_univ _, le_rfl⟩))

/-- No value is above the one of rank 0. -/
theorem le_first (y : Fin 100000 → EReal) (c : Fin 100000) : y c ≤ y (nth y 0) := by
  obtain ⟨q, rfl⟩ := Order.rank_surjective y c
  have e := sig_le y (Nat.zero_le q.val) q.isLt
  unfold nth at e
  rwa [ofNat_val] at e

theorem rowMax_apply (X : FVec Ideal S128x100000 .f32) (b : Fin 128) :
    (rowMax X (ix1 b) : EReal) = X (ix2 b (nth (fun n => X (ix2 b n)) 0)) := by
  refine (fold_row X _ (by decide) _ _ b).trans ?_
  refine Eq.trans ?_ (fold_max_eq (fun n => (X (ix2 b n) : EReal)) _ (le_first _))
  exact congrArg (fun z => Finset.fold max z _ _) negInf

/-! ## The softmax -/

/-- The exponentials of a table's entries less their row's maximum. -/
def expo (X : FVec Ideal S128x100000 .f32) (M : FVec Ideal S128 .f32) : FVec Ideal S128x100000 .f32 :=
  Host.exp (subf X (broadcastInDim S128x100000 ![0, 1] bcast_S128x1_S128x100000_0_1 (broadcastInDim S128x1 ![0] bcast_S128_S128x1_0
    (maximumf (broadcastInDim S128 ![] bcast_S_S128 (constant S_ .f32 0xFF800000#32)) M))))

theorem expo_apply (X : FVec Ideal S128x100000 .f32) (M : FVec Ideal S128 .f32) (b : Fin 128) (c : Fin 100000) :
    (expo X M (ix2 b c) : EReal) = Ideal.exp (X (ix2 b c) - max (Ideal.ofBits FTy.f32 0xFF800000#32) (M (ix1 b))) := by
  pointwise [expo]

section
variable (V0 : Valuation τ sig (Elt Ideal)) (b : Fin 128)

/-- The logits of a row. -/
def row : Fin 100000 → EReal := fun n => V0 (Proc.devRef .tc main_arg0) (ix2 b n)
/-- The counts of a row. -/
def cnt : Fin 100000 → BitVec 32 := fun n => V0 (Proc.devRef .tc main_arg1) (ix2 b n)
/-- The gate of a row. -/
def gte : EReal := V0 (Proc.devRef .tc main_arg2) (ix1 b)
/-- The noise of a row. -/
def nse : EReal := V0 (Proc.devRef .tc main_arg3) (ix1 b)

theorem v6_apply (c : Fin 100000) :
    (res_main_v6 V0 (ix2 b c) : EReal) = Ideal.exp (row V0 b c - row V0 b (nth (row V0 b) 0)) := by
  have e : res_main_v6 V0 = expo (V0 (Proc.devRef .tc main_arg0)) (rowMax (V0 (Proc.devRef .tc main_arg0))) := rfl
  rw [e, expo_apply, rowMax_apply, negInf]
  exact congrArg (fun z => Ideal.exp (_ - z)) (max_eq_right bot_le)

theorem v10_apply (c : Fin 100000) :
    (res_main_v10 V0 (ix2 b c) : EReal) = Ideal.div (Ideal.exp (row V0 b c - row V0 b (nth (row V0 b) 0))) (den (row V0 b)) := by
  have e : (res_main_v10 V0 (ix2 b c) : EReal) = Ideal.div (res_main_v6 V0 (ix2 b c)) (∑ x : Fin 100000, (res_main_v6 V0 (ix2 b x) : EReal)) := by
    unfold res_main_v10
    clean_types
    pointwise
  rw [e]
  unfold den
  simp only [v6_apply]

end

/-- Dividing the exponentials by their sum keeps the order of logits below infinity. -/
theorem soft_lt (y : Fin 100000 → EReal) (ht : ∀ n, y n ≠ ⊤) (m : Fin 100000) (hm : y m ≠ ⊥) (a c : Fin 100000) :
    Ideal.div (Ideal.exp (y a - y m)) (∑ x, Ideal.exp (y x - y m)) < Ideal.div (Ideal.exp (y c - y m)) (∑ x, Ideal.exp (y x - y m))
      ↔ y a < y c := by
  obtain ⟨f, hf⟩ : ∃ f : ℝ, y m = f := ⟨_, (EReal.coe_toReal (ht m) hm).symm⟩
  have e : ∀ x, Ideal.exp (y x - (f : EReal)) = ((weight (y x) * Real.exp (-f) : ℝ) : EReal) := fun x => exp_sub (ht x) f
  have hp : 0 < ∑ x, weight (y x) * Real.exp (-f) :=
    Finset.sum_pos' (fun x _ => mul_nonneg (weight_nonneg _) (Real.exp_pos _).le)
      ⟨m, Finset.mem_univ m, mul_pos (weight_pos hm) (Real.exp_pos _)⟩
  rw [hf]
  simp only [e]
  rw [← coe_sum, Ideal.div_coe hp.ne', Ideal.div_coe hp.ne', ← EReal.coe_mul, ← EReal.coe_mul, EReal.coe_lt_coe_iff,
    mul_lt_mul_iff_left₀ (one_div_pos.2 hp), mul_lt_mul_iff_left₀ (Real.exp_pos _), weight_lt (ht a) (ht c)]

theorem lt_hundred (r : Fin 5) : r.val < 100000 := by omega
theorem ofNat_mk (r : Nat) (h : r < 100000) : Fin.ofNat 100000 r = ⟨r, h⟩ := Fin.ext (Nat.mod_eq_of_lt h)

section
variable {V0 : Valuation τ sig (Elt Ideal)} {b : Fin 128} (h : Good (row V0 b) (cnt V0 b))
include h

/-- The order of a row's probabilities is that of its logits. -/
theorem rank_v10 : Order.rank (fun c => (res_main_v10 V0 (ix2 b c) : EReal)) = Order.rank (row V0 b) :=
  Order.rank_congr _ _ fun a c => by
    rw [v10_apply, v10_apply]
    exact soft_lt _ h.top _ (h.above (by omega : 0 < 5)).ne' a c

theorem rank_nth (r : Fin 5) :
    Order.rank (fun c => (res_main_v10 V0 (ix2 b c) : EReal)) ⟨r.val, lt_hundred r⟩ = nth (row V0 b) r.val :=
  (congrFun (rank_v10 h) _).trans (congrArg _ (ofNat_mk _ (lt_hundred r)).symm)

theorem values_apply (r : Fin 5) : (res_main_values V0 (ix2 b r) : EReal) = pr (row V0 b) r.val := by
  have e : (res_main_values V0 (ix2 b r) : EReal) = res_main_v10 V0 (ix2 b (nth (row V0 b) r.val)) := by
    rw [← rank_nth h r]
    exact Order.topK_fst (m := 128) (n := 100000) (t := 5) (res_main_v10 V0) sliceFits_S128x100000_S128x5 b r (lt_hundred r)
  rw [e, v10_apply]
  rfl

theorem indices_apply (r : Fin 5) : res_main_indices V0 (ix2 b r) = BitVec.ofNat 32 (nth (row V0 b) r.val).val := by
  rw [← rank_nth h r]
  exact Order.topK_snd (m := 128) (n := 100000) (t := 5) (res_main_v10 V0) sliceFits_S128x100000_S128x5 b r (lt_hundred r)

end

end Cert.ReferenceIdeal.Value

end
-- ==== Proof.Lookup.lean ====
/- Host operations read at a place: a gather along rows, a running sum of rows, a scatter of one entry a row. -/
module

public import Idealize.ShloMosaic.Lib.Routing.Ops
public import Idealize.ShloMosaic.Lib.Routing.OpsPair
public import proofs.«01_k».proof.Proof.Order
public import Idealize.ShloMosaic.Lib.Tactic.CleanTypes

@[expose] public section

noncomputable section

namespace Cert.Lookup

open Idealize.ShloMosaic

/-- The dimension numbers of a gather along the rows of a table. -/
def alongDims {B N T : Nat}
    (hw : GatherDims.WF (⟨2, ![B, N]⟩ : Shape) (⟨3, ![B, T, 1]⟩ : Shape) (⟨2, ![B, T]⟩ : Shape) [] [1] [0] [1] [0] 2 ![1, 1]) :
    GatherDims (⟨2, ![B, N]⟩ : Shape) (⟨3, ![B, T, 1]⟩ : Shape) (⟨2, ![B, T]⟩ : Shape) where
  offsetDims := []
  collapsedSliceDims := [1]
  operandBatchingDims := [0]
  startIndicesBatchingDims := [0]
  startIndexMap := [1]
  indexVectorDim := 2
  sliceSizes := ![1, 1]
  wf := hw

/-- A gather along the rows of a table: where the index at `(b, r)` names column `n`, the table's entry `(b, n)`. -/
theorem gather_along {α : Type} {B N T : Nat} (hw) (x : (⟨2, ![B, N]⟩ : Shape).Idx → α) (idx : IVec (⟨3, ![B, T, 1]⟩ : Shape) 32)
    (b : Fin B) (r : Fin T) (n : Fin N) (h : idx (ix3 b r 0) = BitVec.ofNat 32 n.val) (hN : N < 2 ^ 31) :
    Host.gather (alongDims hw) x idx (ix2 b r) = x (ix2 b n) := by
  unfold Host.gather
  refine congrArg x (funext fun a => Fin.ext ?_)
  have hn := n.isLt
  match a with
  | ⟨0, _⟩ =>
    show 0 + b.val + 0 = b.val
    omega
  | ⟨1, _⟩ =>
    have e : ∀ q : (⟨3, ![B, T, 1]⟩ : Shape).Idx, (q 0).val = b.val → (q 1).val = r.val → q = ix3 b r 0 := fun q h0 h1 =>
      funext fun a => Fin.ext (by
        match a with
        | ⟨0, _⟩ => exact h0
        | ⟨1, _⟩ => exact h1
        | ⟨2, _⟩ =>
          have := (q 2).isLt
          change (q 2).val < 1 at this
          show (q 2).val = 0
          omega)
    have hs : (alongDims hw).start (ix2 b r) idx 1 = min (idx (ix3 b r 0)).toInt.toNat (N - 1) :=
      congrArg (fun z => min (idx z).toInt.toNat (N - 1)) (e ((alongDims hw).siIdx (ix2 b r) ⟨0, Nat.zero_lt_one⟩) rfl rfl)
    show (alongDims hw).start (ix2 b r) idx 1 + 0 + 0 = n.val
    rw [hs, h, StableHlo.Predicate.toInt_ofNat_small _ (by omega)]
    omega

/-- A left fold by addition is the start plus the sum. -/
theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- The running sums of a table's rows of five. -/
theorem cumsum_apply {B : Nat} (x : FVec Ideal (⟨2, ![B, 5]⟩ : Shape) .f32) {u : Shape} (init : FVec Ideal u .f32)
    (hi : ∀ i, (init i : EReal) = 0)
    (h : (⟨2, ![B, 5]⟩ : Shape).ReduceWindows (![1, 5] : Fin 2 → Nat) ![1, 1] ![0, 4] ![0, 0] (⟨2, ![B, 5]⟩ : Shape)) (hu : 0 < u.numel)
    (f : Nat → EReal) (b : Fin B) (hf : ∀ r : Fin 5, (x (ix2 b r) : EReal) = f r.val) (j : Fin 5) :
    (Host.reduceWindowAdd (F := Ideal) (φ := .f32) ![1, 5] ![1, 1] ![0, 4] ![0, 0] x init h hu (ix2 b j) : EReal)
      = ∑ q ∈ Finset.range (j.val + 1), f q := by
  unfold Host.reduceWindowAdd
  rw [Ideal.hostReduceWindowAdd_def]
  unfold Ideal.hostReduceWindowAdd Host.reduceWindow
  refine (foldl_add _ _ _).trans ?_
  refine (congrArg₂ (fun a b : EReal => a + b) (hi _) (congrArg List.sum (List.map_congr_left
    (g := fun n => (fun w : Nat => if 4 ≤ j.val + w then f (j.val + w - 4) else 0) n.val) fun n _ => ?_))).trans ?_
  · have hw0 : ((Routing.shape2 1 5).rowMajor.symm n 0).val = 0 := by rw [Routing.symm2]; rfl
    have hw : ((Routing.shape2 1 5).rowMajor.symm n 1).val = n.val := by rw [Routing.symm2]; rfl
    have hn : n.val < 5 := (n.cast (Routing.numel2 _)).isLt
    have hj := j.isLt
    have hb := b.isLt
    dsimp only
    split
    · next hin =>
      have h1 := hin 1
      change 4 ≤ j.val * 1 + ((Routing.shape2 1 5).rowMajor.symm n 1).val
        ∧ j.val * 1 + ((Routing.shape2 1 5).rowMajor.symm n 1).val - 4 < 5 at h1
      rw [hw] at h1
      rw [if_pos (by omega)]
      refine (congrArg x (funext fun a => Fin.ext ?_)).trans (hf ⟨j.val + n.val - 4, by omega⟩)
      match a with
      | ⟨0, _⟩ =>
        show b.val * 1 + ((Routing.shape2 1 5).rowMajor.symm n 0).val - 0 = b.val
        rw [hw0]
        omega
      | ⟨1, _⟩ =>
        show j.val * 1 + ((Routing.shape2 1 5).rowMajor.symm n 1).val - 4 = j.val + n.val - 4
        rw [hw, Nat.mul_one]
    · next hin =>
      rw [if_neg fun hle => hin fun a => ?_]
      · exact hi _
      · match a with
        | ⟨0, _⟩ =>
          show 0 ≤ b.val * 1 + ((Routing.shape2 1 5).rowMajor.symm n 0).val ∧ b.val * 1 + ((Routing.shape2 1 5).rowMajor.symm n 0).val - 0 < B
          rw [hw0]
          omega
        | ⟨1, _⟩ =>
          show 4 ≤ j.val * 1 + ((Routing.shape2 1 5).rowMajor.symm n 1).val ∧ j.val * 1 + ((Routing.shape2 1 5).rowMajor.symm n 1).val - 4 < 5
          rw [hw]
          omega
  · rw [zero_add]
    refine (congrArg List.sum (Routing.map_finRange_val (Routing.shape2 1 5).numel
      (fun w : Nat => if 4 ≤ j.val + w then f (j.val + w - 4) else 0))).trans ?_
    have e : (List.map (fun w : Nat => if 4 ≤ j.val + w then f (j.val + w - 4) else 0) (List.range 5)).sum
        = ∑ q ∈ Finset.range (j.val + 1), f q := by
      fin_cases j <;> simp [List.range_succ, Finset.sum_range_succ, add_assoc]
    exact (congrArg (fun M => (List.map (fun w : Nat => if 4 ≤ j.val + w then f (j.val + w - 4) else 0) (List.range M)).sum)
      (Routing.numel2 5)).trans e

/-- The dimension numbers of a scatter of one entry a row into a table. -/
def placeDims {B N : Nat} (hw : ScatterDims.WF (⟨2, ![B, N]⟩ : Shape) (⟨2, ![B, 2]⟩ : Shape) (⟨1, ![B]⟩ : Shape) [] [0, 1] [0, 1] 1) :
    ScatterDims (⟨2, ![B, N]⟩ : Shape) (⟨2, ![B, 2]⟩ : Shape) (⟨1, ![B]⟩ : Shape) where
  updateWindowDims := []
  insertedWindowDims := [0, 1]
  scatterDimsToOperandDims := [0, 1]
  indexVectorDim := 1
  wf := hw

/-- A fold of conditional steps, where at most one item satisfies the condition. -/
theorem foldl_one {ι α : Type} [DecidableEq ι] (l : List ι) (hl : l.Nodup) (P : ι → Prop) [DecidablePred P] (f : α → ι → α) (k : ι)
    (hP : ∀ n, P n → n = k) (x : α) :
    l.foldl (fun a n => if P n then f a n else a) x = if k ∈ l ∧ P k then f x k else x := by
  induction l generalizing x with
  | nil => simp
  | cons a l ih =>
    rw [List.foldl_cons, ih (List.nodup_cons.1 hl).2]
    by_cases ha : P a
    · obtain rfl := hP a ha
      rw [if_pos ha, if_neg fun h => (List.nodup_cons.1 hl).1 h.1, if_pos ⟨List.mem_cons_self, ha⟩]
    · rw [if_neg ha]
      refine if_congr ⟨fun h => ⟨List.mem_cons_of_mem _ h.1, h.2⟩, fun h => ⟨?_, h.2⟩⟩ rfl rfl
      rcases List.mem_cons.1 h.1 with rfl | h'
      · exact absurd h.2 ha
      · exact h'

/-- A scatter of one entry a row, row `a`'s to column `w a`: the table combined with the row's entry at that column. -/
theorem scatter_place {α : Type} {B N : Nat} (hw) (f : α → α → α) (x : (⟨2, ![B, N]⟩ : Shape).Idx → α) (idx : IVec (⟨2, ![B, 2]⟩ : Shape) 32)
    (upd : (⟨1, ![B]⟩ : Shape).Idx → α) (w : Fin B → Fin N) (h0 : ∀ a, idx (ix2 a 0) = BitVec.ofNat 32 a.val)
    (h1 : ∀ a, idx (ix2 a 1) = BitVec.ofNat 32 (w a).val) (hB : B < 2 ^ 31) (hN : N < 2 ^ 31) (b : Fin B) (c : Fin N) :
    Host.scatter (placeDims hw) f x idx upd (ix2 b c) = if w b = c then f (x (ix2 b c)) (upd (ix1 b)) else x (ix2 b c) := by
  have hl : ∀ a : Fin B, (placeDims hw).resultIdx? (ix1 a) idx = some (ix2 b c) ↔ a = b ∧ w a = c := fun a => by
    have e : ∀ (q : (⟨2, ![B, 2]⟩ : Shape).Idx) (m : Fin 2), (q 0).val = a.val → (q 1).val = m.val → q = ix2 a m := fun q m e0 e1 =>
      funext fun a => Fin.ext (by
        match a with
        | ⟨0, _⟩ => exact e0
        | ⟨1, _⟩ => exact e1)
    refine (Routing.resultIdx?_ix2 (placeDims hw) (ix1 a) idx b c).trans ?_
    have s0 : (placeDims hw).start (ix1 a) idx 0 = (idx (ix2 a 0)).toInt :=
      congrArg (fun z => (idx z).toInt) (e ((placeDims hw).siIdx (ix1 a) ⟨0, Nat.zero_lt_two⟩) 0 rfl rfl)
    have s1 : (placeDims hw).start (ix1 a) idx 1 = (idx (ix2 a 1)).toInt :=
      congrArg (fun z => (idx z).toInt) (e ((placeDims hw).siIdx (ix1 a) ⟨1, Nat.one_lt_two⟩) 1 rfl rfl)
    show (placeDims hw).start (ix1 a) idx 0 + ((0 : Nat) : Int) = _ ∧ (placeDims hw).start (ix1 a) idx 1 + ((0 : Nat) : Int) = _ ↔ _
    have ha := a.isLt
    have hc := (w a).isLt
    rw [s0, s1, h0, h1, StableHlo.Predicate.toInt_ofNat_small _ (by omega),
      StableHlo.Predicate.toInt_ofNat_small _ (by omega)]
    constructor
    · rintro ⟨p, q⟩
      exact ⟨Fin.ext (by omega), Fin.ext (by omega)⟩
    · rintro ⟨rfl, rfl⟩
      omega
  rw [Routing.scatter_at]
  refine (foldl_one _ (List.nodup_finRange _) (fun n => (placeDims hw).resultIdx? ((Routing.shape1 B).rowMajor.symm n) idx = some (ix2 b c))
    (fun a n => f a (upd ((Routing.shape1 B).rowMajor.symm n))) (b.cast (Routing.numel1 B).symm) (fun n hn => ?_) _).trans ?_
  · rw [Routing.symm1] at hn
    exact Fin.ext (show (n.cast (Routing.numel1 B)).val = b.val from congrArg Fin.val ((hl _).1 hn).1)
  · rw [Routing.symm1]
    refine if_congr ⟨fun h => ((hl b).1 h.2).2, fun h => ⟨List.mem_finRange _, (hl b).2 ⟨rfl, h⟩⟩⟩ rfl rfl

end Cert.Lookup

end
-- ==== Proof.Draw.lean ====
/- What the reference draws for a row: the running sums of the penalised probabilities, the choice, the word. -/
module

public import proofs.«01_k».proof.Proof.Reference
public import proofs.«01_k».proof.Proof.Lookup

@[expose] public section

set_option maxRecDepth 16384

noncomputable section

namespace Cert.ReferenceIdeal.Value

open Idealize.ShloMosaic Cert.ReferenceIdeal Cert.ReferenceIdeal.Gen
open Cert.KernelIdeal.Vecs renaming sig → nth
open Cert.KernelIdeal.Vecs (Good den pr opened pn cd ch drawn wordR probR cntR ch_le count_bits card_five)

/-- A small number as a word is not negative and at most a small bound. -/
theorem in_range (n m : Nat) (hn : n ≤ m) (hm : m < 2 ^ 31) :
    IntOp.andi (IntOp.cmpi .sge (BitVec.ofNat 32 n) 0#32) (IntOp.cmpi .sle (BitVec.ofNat 32 n) (BitVec.ofNat 32 m)) = 1#1 := by
  have e : ∀ q < 2 ^ 31, (BitVec.ofNat 32 q).toInt = q := fun q hq => StableHlo.Predicate.toInt_ofNat_small _ hq
  show BitVec.ofBool (BitVec.sle _ _) &&& BitVec.ofBool (BitVec.sle _ _) = 1#1
  have h1 : BitVec.sle 0#32 (BitVec.ofNat 32 n) = true := by
    rw [BitVec.sle, e n (by omega)]
    exact decide_eq_true (by simp)
  have h2 : BitVec.sle (BitVec.ofNat 32 n) (BitVec.ofNat 32 m) = true := by
    rw [BitVec.sle, e n (by omega), e m hm]
    exact decide_eq_true (by omega)
  rw [h1, h2]
  rfl

/-- A small number as a word is not wrapped round. -/
theorem wrap_small (n : Nat) (hn : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- Choosing by a bit. -/
theorem select_bit {α : Type} (p : Bool) (a c : α) : Scalar.select (BitVec.ofBool p) a c = if p = true then a else c := by
  cases p <;> rfl

/-- The sum of five words. -/
theorem fold_five (f : Fin 5 → BitVec 32) : Finset.fold IntOp.addi 0#32 f Finset.univ
    = IntOp.addi (IntOp.addi (IntOp.addi (IntOp.addi (f 0) (f 1)) (f 2)) (f 3)) (f 4) := by
  have e : Finset.fold IntOp.addi 0#32 f Finset.univ = ∑ x, f x := (Finset.sum_eq_fold Finset.univ f).symm
  rw [e, Fin.sum_univ_five]
  rfl

theorem select_one {α : Type} (a c : α) : Scalar.select 1#1 a c = a := rfl

/-- The conjunction of one bit. -/
theorem fold_one (f : Fin 1 → BitVec 1) (h : f 0 = 1#1) : Finset.fold IntOp.andi 1#1 f Finset.univ = 1#1 := by
  rw [Finset.univ_unique, Finset.fold_singleton]
  show IntOp.andi (f 0) 1#1 = 1#1
  rw [h]
  rfl

section
variable (V0 : Valuation τ sig (Elt Ideal)) (b : Fin 128)

theorem v12_apply : res_main_v12 V0 (ix1 b) = BitVec.ofBool (decide (opened (gte V0 b))) := by
  have e : res_main_v12 V0 (ix1 b) = BitVec.ofBool (decide ((Ideal.ofBits FTy.f32 1041865114#32 : EReal) < V0 (Proc.devRef .tc main_arg2) (ix1 b))) := by
    unfold res_main_v12
    clean_types
    pointwise
  exact e
end

section
variable {V0 : Valuation τ sig (Elt Ideal)} {b : Fin 128} (h : Good (row V0 b) (cnt V0 b))
include h

theorem call0_apply (r : Fin 5) : res_main_call0_v5 V0 (ix3 b r 0) = BitVec.ofNat 32 (nth (row V0 b) r.val).val := by
  have e : res_main_call0_v5 V0 (ix3 b r 0) = Scalar.select (IntOp.cmpi .slt (res_main_indices V0 (ix2 b r)) 0#32)
      (IntOp.addi (res_main_indices V0 (ix2 b r)) 100000#32) (res_main_indices V0 (ix2 b r)) := by
    unfold res_main_call0_v5
    clean_types
    pointwise
  have hn := (nth (row V0 b) r.val).isLt
  rw [e, indices_apply h r, wrap_small _ (by omega)]

theorem v21_apply (r : Fin 5) : (res_main_v21 V0 (ix2 b r) : EReal) = pn (row V0 b) (cnt V0 b) (gte V0 b) r.val := by
  have e : (res_main_v21 V0 (ix2 b r) : EReal) = Scalar.select (res_main_v12 V0 (ix1 b)) (Ideal.div (res_main_values V0 (ix2 b r))
      (1 + Ideal.ofBits FTy.f32 1073741824#32 * FloatOps.sitofp (F := Ideal) .f32 (Scalar.select (Finset.fold IntOp.andi 1#1
        (fun x : Fin 1 => IntOp.andi (IntOp.cmpi .sge (res_main_call0_v5 V0 (ix3 b r x)) 0#32) (IntOp.cmpi .sle (res_main_call0_v5 V0 (ix3 b r x)) 99999#32)) Finset.univ)
        (Host.gather gather_S128x100000_S128x5x1_S128x5_n_1_0_0_1_2_11 (V0 (Proc.devRef .tc main_arg1)) (res_main_call0_v5 V0) (ix2 b r)) 2147483648#32)))
      (res_main_values V0 (ix2 b r)) := by
    unfold res_main_v21
    clean_types
    pointwise
  have hn := (nth (row V0 b) r.val).isLt
  have hg : Host.gather gather_S128x100000_S128x5x1_S128x5_n_1_0_0_1_2_11 (V0 (Proc.devRef .tc main_arg1)) (res_main_call0_v5 V0) (ix2 b r)
      = cnt V0 b (nth (row V0 b) r.val) :=
    Lookup.gather_along _ (V0 (Proc.devRef .tc main_arg1)) (res_main_call0_v5 V0) b r _ (call0_apply h r) (by decide)
  rw [e, hg, fold_one _ (by rw [call0_apply h r]; exact in_range _ 99999 (by omega) (by decide)), v12_apply, values_apply h r]
  unfold pn
  rw [Ideal.ofBits_one_f32]
  rw [select_bit]
  exact if_congr decide_eq_true_iff rfl rfl

theorem v32_apply : res_main_v32 V0 (ix2 b 0) = BitVec.ofNat 32 (ch (row V0 b) (cnt V0 b) (gte V0 b) (nse V0 b)) := by
  have e : res_main_v32 V0 (ix2 b 0) = IntOp.minsi (id (constantI S_ 32 4#32) ix0) (IntOp.maxsi (id (constantI S_ 32 0#32) ix0) (Finset.fold IntOp.addi 0#32 (fun x : Fin 5 =>
      BitVec.setWidth 32 (BitVec.ofBool (decide ((Host.reduceWindowAdd ![1, 5] ![1, 1] ![0, 4] ![0, 0] (res_main_v21 V0)
        (broadcastInDim S_ ![] bcast_S_S_ (constant S_ .f32 0x00000000#32)) reduceWindows_S128x5_S128x5_w1s1p0_0_w5s1p4_0 h_S_ (ix2 b x) : EReal)
        < @HMul.hMul EReal EReal EReal _ (V0 (Proc.devRef .tc main_arg3) (ix1 b)) (@Finset.sum (Fin 5) EReal _ Finset.univ fun x => res_main_v21 V0 (ix2 b x)))))) Finset.univ)) := by
    unfold res_main_v32
    clean_types
    pointwise
  have hs : (@Finset.sum (Fin 5) EReal _ Finset.univ fun x => res_main_v21 V0 (ix2 b x)) = cd (row V0 b) (cnt V0 b) (gte V0 b) 4 :=
    (Finset.sum_congr (M := EReal) rfl fun x _ => v21_apply h x).trans (Fin.sum_univ_eq_sum_range (fun q => pn (row V0 b) (cnt V0 b) (gte V0 b) q) 5)
  have hc : ∀ x : Fin 5, (Host.reduceWindowAdd ![1, 5] ![1, 1] ![0, 4] ![0, 0] (res_main_v21 V0)
        (broadcastInDim S_ ![] bcast_S_S_ (constant S_ .f32 0x00000000#32)) reduceWindows_S128x5_S128x5_w1s1p0_0_w5s1p4_0 h_S_ (ix2 b x) : EReal)
      = cd (row V0 b) (cnt V0 b) (gte V0 b) x.val := fun x =>
    Lookup.cumsum_apply (res_main_v21 V0) _ (fun i => Ideal.ofBits_zero_f32) _ _ (fun q => pn (row V0 b) (cnt V0 b) (gte V0 b) q) b (v21_apply h) x
  rw [e, hs]
  simp only [hc]
  unfold ch
  rw [card_five, fold_five]
  exact count_bits _ _ _ _ _

theorem call4_apply : res_main_call4_v5 V0 (ix3 b 0 0) = BitVec.ofNat 32 (ch (row V0 b) (cnt V0 b) (gte V0 b) (nse V0 b)) := by
  have e : res_main_call4_v5 V0 (ix3 b 0 0) = Scalar.select (IntOp.cmpi .slt (res_main_v32 V0 (ix2 b 0)) 0#32)
      (IntOp.addi (res_main_v32 V0 (ix2 b 0)) 5#32) (res_main_v32 V0 (ix2 b 0)) := by
    unfold res_main_call4_v5
    clean_types
    pointwise
  have hn := ch_le (row V0 b) (cnt V0 b) (gte V0 b) (nse V0 b)
  rw [e, v32_apply h, wrap_small _ (by omega)]

/-- The word drawn for a row. -/
theorem v33_apply : res_main_v33 V0 (ix2 b 0) = wordR (row V0 b) (cnt V0 b) (gte V0 b) (nse V0 b) := by
  have e : res_main_v33 V0 (ix2 b 0) = Scalar.select (Finset.fold IntOp.andi 1#1
        (fun x : Fin 1 => IntOp.andi (IntOp.cmpi .sge (res_main_call4_v5 V0 (ix3 b 0 x)) 0#32) (IntOp.cmpi .sle (res_main_call4_v5 V0 (ix3 b 0 x)) 4#32)) Finset.univ)
        (Host.gather gather_S128x5_S128x1x1_S128x1_n_1_0_0_1_2_11 (res_main_indices V0) (res_main_call4_v5 V0) (ix2 b 0)) 2147483648#32 := by
    unfold res_main_v33
    clean_types
    pointwise
  have hn := ch_le (row V0 b) (cnt V0 b) (gte V0 b) (nse V0 b)
  rw [e, fold_one _ (by rw [call4_apply h]; exact in_range _ 4 hn (by decide))]
  exact (Lookup.gather_along _ (res_main_indices V0) (res_main_call4_v5 V0) b (0 : Fin 1) ⟨_, Nat.lt_succ_of_le hn⟩ (call4_apply h) (by decide)).trans
    (indices_apply h _)

theorem call5_apply : res_main_call5_v5 V0 (ix3 b 0 0) = wordR (row V0 b) (cnt V0 b) (gte V0 b) (nse V0 b) := by
  have e : res_main_call5_v5 V0 (ix3 b 0 0) = Scalar.select (IntOp.cmpi .slt (res_main_v33 V0 (ix2 b 0)) 0#32)
      (IntOp.addi (res_main_v33 V0 (ix2 b 0)) 100000#32) (res_main_v33 V0 (ix2 b 0)) := by
    unfold res_main_call5_v5
    clean_types
    pointwise
  have hn := (drawn (row V0 b) (cnt V0 b) (gte V0 b) (nse V0 b)).isLt
  rw [e, v33_apply h]
  exact wrap_small _ (by omega) _

end

/-! ## The three results -/

section
variable (V0 : Valuation τ sig (Elt Ideal))

/-- The words drawn. -/
def words : IVec S128 32 := shapeCast _ (res_main_v33 V0) shapeCasts_S128x1_S128
/-- The probabilities of the words drawn. -/
def probs : FVec Ideal S128 .f32 :=
  shapeCast _ (select (Host.reduce IntOp.andi (andi (cmpi .sge (res_main_call5_v5 V0) (broadcastInDim S128x1x1 ![] bcast_S_S128x1x1 (constantI S_ 32 0#32))) (cmpi .sle (res_main_call5_v5 V0) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (res_main_v10 V0) (res_main_call5_v5 V0)) (broadcastInDim S128x1 ![] bcast_S_S128x1 (constant S_ .f32 0x7FC00000#32))) shapeCasts_S128x1_S128
/-- Where each row's count goes. -/
def spots : IVec S128x2 32 :=
  concatenate S128x2 1 [⟨S128x1, (broadcastInDim S128x1 ![0] bcast_S128_S128x1_0 (select (cmpi .slt (res_main_v37 V0) (broadcastInDim S128 ![] bcast_S_S128 (constantI S_ 32 0#32))) (addi (res_main_v37 V0) (broadcastInDim S128 ![] bcast_S_S128 (constantI S_ 32 128#32))) (res_main_v37 V0)))⟩, ⟨S128x1, (broadcastInDim S128x1 ![0] bcast_S128_S128x1_0 (select (cmpi .slt (res_main_v38 V0) (broadcastInDim S128 ![] bcast_S_S128 (constantI S_ 32 0#32))) (addi (res_main_v38 V0) (broadcastInDim S128 ![] bcast_S_S128 (constantI S_ 32 100000#32))) (res_main_v38 V0)))⟩] concatenates_S128x1_S128x1_S128x2_d1
/-- The counts afterwards. -/
def counts : IVec S128x100000 32 :=
  Host.scatter scatter_S128x100000_S128x2_S128_n_01_01_1 IntOp.addi (V0 (Proc.devRef .tc main_arg1)) (spots V0) (extui 32 (res_main_v12 V0) natLt_1_32)

variable {V0} {b : Fin 128} (h : Good (row V0 b) (cnt V0 b))

theorem words_apply (h : Good (row V0 b) (cnt V0 b)) : words V0 (ix1 b) = wordR (row V0 b) (cnt V0 b) (gte V0 b) (nse V0 b) := by
  have e : words V0 (ix1 b) = res_main_v33 V0 (ix2 b 0) := by
    pointwise [words]
  rw [e, v33_apply h]

theorem probs_apply (h : Good (row V0 b) (cnt V0 b)) : (probs V0 (ix1 b) : EReal) = probR (row V0 b) (cnt V0 b) (gte V0 b) (nse V0 b) := by
  have e : (probs V0 (ix1 b) : EReal) = Scalar.select (Finset.fold IntOp.andi 1#1
        (fun x : Fin 1 => IntOp.andi (IntOp.cmpi .sge (res_main_call5_v5 V0 (ix3 b 0 x)) 0#32) (IntOp.cmpi .sle (res_main_call5_v5 V0 (ix3 b 0 x)) 99999#32)) Finset.univ)
        (Host.gather gather_S128x100000_S128x1x1_S128x1_n_1_0_0_1_2_11 (res_main_v10 V0) (res_main_call5_v5 V0) (ix2 b 0)) (Ideal.ofBits FTy.f32 0x7FC00000#32) := by
    unfold probs
    clean_types
    pointwise
  have hn := (drawn (row V0 b) (cnt V0 b) (gte V0 b) (nse V0 b)).isLt
  have hg : (Host.gather gather_S128x100000_S128x1x1_S128x1_n_1_0_0_1_2_11 (res_main_v10 V0) (res_main_call5_v5 V0) (ix2 b 0) : EReal)
      = res_main_v10 V0 (ix2 b (drawn (row V0 b) (cnt V0 b) (gte V0 b) (nse V0 b))) :=
    Lookup.gather_along _ (res_main_v10 V0) (res_main_call5_v5 V0) b (0 : Fin 1) _ (call5_apply h) (by decide)
  rw [e, hg, fold_one _ (by rw [call5_apply h]; exact in_range _ 99999 (by omega) (by decide)), v10_apply, select_one]
  unfold probR pr drawn
  rfl

/-- The gate's bit added to a count. -/
theorem add_gate (k : BitVec 32) (p q : Prop) [Decidable p] [Decidable q] :
    (if q then IntOp.addi k (BitVec.setWidth 32 (BitVec.ofBool (decide p))) else k) = k + if p ∧ q then 1#32 else 0#32 := by
  by_cases hp : p <;> by_cases hq : q <;> simp [hp, hq, IntOp.addi]

theorem spots_row (a : Fin 128) : spots V0 (ix2 a 0) = BitVec.ofNat 32 a.val := by
  have e : spots V0 (ix2 a 0) = Scalar.select (IntOp.cmpi .slt (BitVec.ofNat 32 a.val) 0#32)
      (IntOp.addi (BitVec.ofNat 32 a.val) 128#32) (BitVec.ofNat 32 a.val) := by
    pointwise [spots, res_main_v37]
  have ha := a.isLt
  rw [e, wrap_small _ (by omega)]

/-- The column drawn for a row. -/
def choiceOf (V0 : Valuation τ sig (Elt Ideal)) (b : Fin 128) : Fin 100000 := drawn (row V0 b) (cnt V0 b) (gte V0 b) (nse V0 b)

theorem word_choice : wordR (row V0 b) (cnt V0 b) (gte V0 b) (nse V0 b) = BitVec.ofNat 32 (choiceOf V0 b).val := by
  unfold wordR choiceOf
  rfl

theorem spots_col (h : Good (row V0 b) (cnt V0 b)) : spots V0 (ix2 b 1) = BitVec.ofNat 32 (choiceOf V0 b).val := by
  have e : spots V0 (ix2 b 1) = Scalar.select (IntOp.cmpi .slt (res_main_v33 V0 (ix2 b 0)) 0#32)
      (IntOp.addi (res_main_v33 V0 (ix2 b 0)) 100000#32) (res_main_v33 V0 (ix2 b 0)) := by
    pointwise [spots, res_main_v38]
  have hn := (choiceOf V0 b).isLt
  rw [e, v33_apply h, word_choice, wrap_small _ (by omega)]

theorem gate_word : extui 32 (res_main_v12 V0) natLt_1_32 (ix1 b) = BitVec.setWidth 32 (BitVec.ofBool (decide (opened (gte V0 b)))) := by
  rw [← v12_apply V0 b]
  rfl

theorem dims_eq : scatter_S128x100000_S128x2_S128_n_01_01_1 = Lookup.placeDims (B := 128) (N := 100000) scatter_S128x100000_S128x2_S128_n_01_01_1_wf := rfl

theorem counts_dims : counts V0 = Host.scatter (Lookup.placeDims (B := 128) (N := 100000) scatter_S128x100000_S128x2_S128_n_01_01_1_wf)
    IntOp.addi (V0 (Proc.devRef .tc main_arg1)) (spots V0) (extui 32 (res_main_v12 V0) natLt_1_32) := rfl

theorem small_hundred : 100000 < 2 ^ 31 := by norm_num

theorem counts_place (w : Fin 128 → Fin 100000) (hw : ∀ a, spots V0 (ix2 a 1) = BitVec.ofNat 32 (w a).val) (c : Fin 100000) :
    counts V0 (ix2 b c) = if w b = c then
      IntOp.addi (V0 (Proc.devRef .tc main_arg1) (ix2 b c)) (extui 32 (res_main_v12 V0) natLt_1_32 (ix1 b)) else V0 (Proc.devRef .tc main_arg1) (ix2 b c) := by
  rw [counts_dims]
  exact Lookup.scatter_place (B := 128) (N := 100000) scatter_S128x100000_S128x2_S128_n_01_01_1_wf IntOp.addi (V0 (Proc.devRef .tc main_arg1)) (spots V0)
    (extui 32 (res_main_v12 V0) natLt_1_32) w (fun a => spots_row a) hw (by norm_num) small_hundred b c

theorem counts_apply (h : ∀ b, Good (row V0 b) (cnt V0 b)) (c : Fin 100000) :
    counts V0 (ix2 b c) = cntR (row V0 b) (cnt V0 b) (gte V0 b) (nse V0 b) c := by
  rw [counts_place (choiceOf V0) (fun a => spots_col (h a)), gate_word]
  exact add_gate _ _ _

end

end Cert.ReferenceIdeal.Value

end
-- ==== Proof.Domain.lean ====
/- What the precondition says of one row: the hypothesis under which the kernel and the reference are compared. -/
module

public import proofs.«01_k».proof.Defs
public import proofs.«01_k».proof.Proof.Row
public import Idealize.ShloMosaic.Lib.KernelVsHost
public import Idealize.ShloMosaic.Lib.WordCmp

@[expose] public section

set_option maxRecDepth 16384

noncomputable section

namespace Cert.Domain

open Idealize.ShloMosaic Cert.Pre_logits_below_infinity_five_apart_small_counts
open Cert.KernelIdeal.Vecs (Good sig)

/-- The side conditions of the precondition's operations. -/
theorem facts : Facts := ⟨by decide, by decide, by decide, by decide, by decide⟩

/-- A conjunction of two bits that is set has both set. -/
theorem both : ∀ a b : BitVec 1, IntOp.andi a b = 1#1 → a = 1#1 ∧ b = 1#1 := by decide

theorem bit_true (p : Bool) (h : BitVec.ofBool p = 1#1) : p = true := by
  cases p
  · exact absurd h (by decide)
  · rfl

/-- A value below infinity is not infinity. -/
theorem ne_top_of (x : EReal) (h : Ideal.cmp .olt x (Ideal.ofBits .f32 0x7F800000#32) = 1#1) : x ≠ ⊤ := by
  have htop : Ideal.ofBits .f32 0x7F800000#32 = ⊤ := by simp [Ideal.ofBits, Ideal.ieee]
  rw [htop] at h
  exact ne_of_lt (of_decide_eq_true (bit_true _ h))

/-- A word that is at least zero and below four is a small number. -/
theorem small_of (k : BitVec 32) (h0 : IntOp.cmpi .sge k 0#32 = 1#1) (h4 : IntOp.cmpi .slt k 4#32 = 1#1) : k.toNat < 4 := by
  rw [WordCmp.cmpi_sge_zero] at h0
  have a : k.toNat < 2 ^ 31 := of_decide_eq_true (bit_true _ h0)
  have c : k.toInt < (4#32 : BitVec 32).toInt := of_decide_eq_true (bit_true _ h4)
  rw [BitVec.toInt_eq_toNat_of_lt (by omega)] at c
  have e : (4#32 : BitVec 32).toInt = 4 := by decide
  omega

theorem lt_hundred (r : Fin 6) : r.val < 100000 := by omega

/-- The six greatest of a row, as the precondition sorts them. -/
theorem top_apply (x : FVec Ideal S128x100000 .f32) (h : S128x100000.Slices (fun _ => 0) S128x6) (b : Fin 128) (r : Fin 6) :
    ((Host.topK S128x6 1 (FloatOps.cmpfTotal .gt) x h).1 (ix2 b r) : EReal)
      = x (ix2 b (sig (fun n => x (ix2 b n)) r.val)) := by
  have e : sig (fun n => (x (ix2 b n) : EReal)) r.val = Order.rank (fun n => (x (ix2 b n) : EReal)) ⟨r.val, lt_hundred r⟩ :=
    congrArg (Order.rank fun n => (x (ix2 b n) : EReal)) (Fin.ext (Nat.mod_eq_of_lt (lt_hundred r)))
  rw [e]
  exact Order.topK_fst (m := 128) (n := 100000) (t := 6) x h b r (lt_hundred r)

/-- Where the precondition holds every row is as asked. -/
theorem good_of [hf : Facts] (x : FVec Ideal S128x100000 .f32) (k : IVec S128x100000 32) (g n : FVec Ideal S128 .f32)
    (h : fn x k g n = fun _ => 1#1) (b : Fin 128) : Good (fun c => x (ix2 b c)) (fun c => k (ix2 b c)) := by
  have parts : ∀ c : Fin 100000, ((Ideal.cmp .olt (x (ix2 b c)) (Ideal.ofBits .f32 0x7F800000#32) = 1#1
      ∧ Ideal.cmp .ogt ((Host.topK S128x6 1 (FloatOps.cmpfTotal .gt) x Facts.sliceFits_S128x100000_S128x6).1 (ix2 b 4))
        ((Host.topK S128x6 1 (FloatOps.cmpfTotal .gt) x Facts.sliceFits_S128x100000_S128x6).1 (ix2 b 5)) = 1#1)
      ∧ IntOp.cmpi .sge (k (ix2 b c)) 0#32 = 1#1) ∧ IntOp.cmpi .slt (k (ix2 b c)) 4#32 = 1#1 := fun c => by
    have e := congrFun h (ix2 b c)
    obtain ⟨e1, h4⟩ := both _ _ e
    obtain ⟨e2, h3⟩ := both _ _ e1
    obtain ⟨h1, h2⟩ := both _ _ e2
    refine ⟨⟨⟨h1, ?_⟩, h3⟩, h4⟩
    pointwise at h2
    exact h2
  refine ⟨fun c => ne_top_of _ (parts c).1.1.1, ?_, fun c => small_of _ (parts c).1.2 (parts c).2⟩
  have a := (parts 0).1.1.2
  rw [top_apply, top_apply] at a
  exact of_decide_eq_true (bit_true _ a)

end Cert.Domain

end
-- ==== Proof.lean ====
/- The proof of the certificate's claim. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.Draw
public import proofs.«01_k».proof.Proof.Domain
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem

/-- The reference ends with its arguments unchanged and every counter at zero: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments on one device agree. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m' c} (e : Agree m m' c)
include e

theorem row_eq (b : Fin 128) : Cert.ReferenceIdeal.Value.row (launchContents m' c) b = Cert.KernelIdeal.Whole.lg m c b :=
  funext fun n => congrFun e.1 (ix2 b n)
theorem cnt_eq (b : Fin 128) : Cert.ReferenceIdeal.Value.cnt (launchContents m' c) b = Cert.KernelIdeal.Whole.ct m c b :=
  funext fun n => congrFun e.2.1 (ix2 b n)
theorem gte_eq (b : Fin 128) : Cert.ReferenceIdeal.Value.gte (launchContents m' c) b = Cert.KernelIdeal.Whole.gt m c b :=
  congrFun e.2.2.1 (ix1 b)
theorem nse_eq (b : Fin 128) : Cert.ReferenceIdeal.Value.nse (launchContents m' c) b = Cert.KernelIdeal.Whole.nz m c b :=
  congrFun e.2.2.2 (ix1 b)

variable (h : Cert.KernelIdeal.Whole.AllGood m c)
include h

theorem good_row (b : Fin 128) : Cert.KernelIdeal.Vecs.Good (Cert.ReferenceIdeal.Value.row (launchContents m' c) b) (Cert.ReferenceIdeal.Value.cnt (launchContents m' c) b) := by
  rw [row_eq e, cnt_eq e]
  exact h b

/-- The two programs' words are the same. -/
theorem words_same : Cert.ReferenceIdeal.Value.words (launchContents m' c)
    = shapeCast Cert.KernelIdeal.S128 (Cert.KernelIdeal.Whole.wordsK m c) Cert.KernelIdeal.Gen.facts.shapeCasts_S128x1_S128 := by
  funext i
  obtain ⟨b, rfl⟩ : ∃ b : Fin 128, i = ix1 b := ⟨i 0, funext fun a => by match a with | ⟨0, _⟩ => rfl⟩
  rw [Cert.ReferenceIdeal.Value.words_apply (good_row e h b), row_eq e, cnt_eq e, gte_eq e, nse_eq e]
  exact (Cert.KernelIdeal.Whole.flat (Cert.KernelIdeal.Whole.wordsK m c) b).symm

/-- The two programs' probabilities are the same. -/
theorem probs_same : Cert.ReferenceIdeal.Value.probs (launchContents m' c)
    = shapeCast Cert.KernelIdeal.S128 (Cert.KernelIdeal.Whole.probsK m c) Cert.KernelIdeal.Gen.facts.shapeCasts_S128x1_S128 := by
  funext i
  obtain ⟨b, rfl⟩ : ∃ b : Fin 128, i = ix1 b := ⟨i 0, funext fun a => by match a with | ⟨0, _⟩ => rfl⟩
  have a := Cert.ReferenceIdeal.Value.probs_apply (good_row e h b)
  rw [row_eq e, cnt_eq e, gte_eq e, nse_eq e] at a
  exact a.trans (Cert.KernelIdeal.Whole.flat (Cert.KernelIdeal.Whole.probsK m c) b).symm

/-- The two programs' counts are the same. -/
theorem counts_same : Cert.ReferenceIdeal.Value.counts (launchContents m' c) = Cert.KernelIdeal.Whole.countsK m c := by
  funext i
  obtain ⟨b, n, rfl⟩ : ∃ (b : Fin 128) (n : Fin 100000), i = ix2 b n := ⟨i 0, i 1, Cert.KernelIdeal.Whole.ix_pair i⟩
  rw [Cert.ReferenceIdeal.Value.counts_apply (good_row e h) n, row_eq e, cnt_eq e, gte_eq e, nse_eq e, Cert.KernelIdeal.Whole.countsK_apply]

end

/-- From agreeing arguments that satisfy the precondition the two programs end with equal words, probabilities and counts. -/
theorem algebraic : Cert.algebraic_KernelIdeal_ReferenceIdeal_pre_logits_below_infinity_five_apart_small_counts
    (hKernelIdeal := Cert.KernelIdeal.Gen.facts) (hReferenceIdeal := Cert.ReferenceIdeal.Gen.facts)
    (hPre_logits_below_infinity_five_apart_small_counts := Cert.Domain.facts) := fun m g m' g' hp ha => by
  have h : ∀ c, Cert.KernelIdeal.Whole.AllGood m c := fun c b => Cert.Domain.good_of (hf := Cert.Domain.facts) _ _ _ _ (hp c) b
  refine ⟨fun c => Cert.ReferenceIdeal.Value.words (launchContents m' c), fun c => Cert.ReferenceIdeal.Value.probs (launchContents m' c),
    fun c => Cert.ReferenceIdeal.Value.counts (launchContents m' c), ?_, Cert.ReferenceIdeal.Value.run (F := Ideal) m' g'⟩
  refine (θ_run Cert.KernelIdeal.defs _ _).mono (fun r hr c => ?_) (Cert.KernelIdeal.Whole.run m g h)
  obtain ⟨h0, h1, h2, hargs⟩ := hr c
  exact ⟨h0.trans (words_same (ha c) (h c)).symm, h1.trans (probs_same (ha c) (h c)).symm, h2.trans (counts_same (ha c) (h c)).symm, hargs⟩

/-- The claim: every program's frame, the idealization, and the equality of the results. -/
theorem claim : Cert.Claim := ⟨Cert.Kernel.Gen.facts, Cert.KernelIdeal.Gen.facts, Cert.ReferenceIdeal.Gen.facts, Cert.Domain.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
